-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S16x32x32x384 : Shape := ⟨4, ![16, 32, 32, 384]⟩
abbrev S256x384x3x3 : Shape := ⟨4, ![256, 384, 3, 3]⟩
abbrev S256 : Shape := ⟨1, ![256]⟩
abbrev S256x256x3x3 : Shape := ⟨4, ![256, 256, 3, 3]⟩
abbrev S1x256x3x3 : Shape := ⟨4, ![1, 256, 3, 3]⟩
abbrev S1 : Shape := ⟨1, ![1]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S16x32x32x384 .f32) (main_arg1 : FVec F S256x384x3x3 .f32) (main_arg2 : FVec F S256 .f32) (main_arg3 : FVec F S256 .f32) (main_arg4 : FVec F S256 .f32) (main_arg5 : FVec F S256x256x3x3 .f32) (main_arg6 : FVec F S256 .f32) (main_arg7 : FVec F S256 .f32) (main_arg8 : FVec F S256 .f32) (main_arg9 : FVec F S1x256x3x3 .f32) (main_arg10 : FVec F S1 .f32) : IVec S_ 1 :=
  let main_v0 : FVec F S256 .f32 := Host.absf main_arg3
  let main_cst : FVec F S_ .f32 := constant S_ .f32 0x7F800000#32
  let main_v1 : FVec F S256 .f32 := broadcastInDim S256 ![] bcast_S_S256 main_cst
  let main_v2 : IVec S256 1 := cmpf .olt main_v0 main_v1
  let main_c : IVec S_ 1 := constantI S_ 1 1#1
  let main_v3 : IVec S_ 1 := (fun x v => Host.reduce IntOp.andi x v reducesTo_S256_S_d0 h_S_) main_v2 main_c
  let main_v4 : FVec F S256 .f32 := Host.absf main_arg7
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Kernel.lean ====
abbrev S16x32x32x384 : Shape := ⟨4, ![16, 32, 32, 384]⟩
abbrev S256x384x3x3 : Shape := ⟨4, ![256, 384, 3, 3]⟩
abbrev S256 : Shape := ⟨1, ![256]⟩
abbrev S256x256x3x3 : Shape := ⟨4, ![256, 256, 3, 3]⟩
abbrev S1x256x3x3 : Shape := ⟨4, ![1, 256, 3, 3]⟩
abbrev S1 : Shape := ⟨1, ![1]⟩
abbrev S3x3x384x256 : Shape := ⟨4, ![3, 3, 384, 256]⟩
abbrev S3x1152x256 : Shape := ⟨3, ![3, 1152, 256]⟩
abbrev S3x3x256x256 : Shape := ⟨4, ![3, 3, 256, 256]⟩
abbrev S3x768x256 : Shape := ⟨3, ![3, 768, 256]⟩
abbrev S3x3x256x1 : Shape := ⟨4, ![3, 3, 256, 1]⟩
abbrev S3x768x1 : Shape := ⟨3, ![3, 768, 1]⟩
abbrev S_ : Shape := ⟨0, ![]⟩
abbrev S3x768x128 : Shape := ⟨3, ![3, 768, 128]⟩
abbrev S1x256 : Shape := ⟨2, ![1, 256]⟩
abbrev S1x1 : Shape := ⟨2, ![1, 1]⟩
abbrev S16x1024x1 : Shape := ⟨3, ![16, 1024, 1]⟩
abbrev S1x32x32x384 : Shape := ⟨4, ![1, 32, 32, 384]⟩
abbrev S1x1024x1 : Shape := ⟨3, ![1, 1024, 1]⟩
abbrev S16x32x32x256 : Shape := ⟨4, ![16, 32, 32, 256]⟩
abbrev S2x256 : Shape := ⟨2, ![2, 256]⟩
abbrev S34x32x1152 : Shape := ⟨3, ![34, 32, 1152]⟩
abbrev S32x1152 : Shape := ⟨2, ![32, 1152]⟩
abbrev S1x32x1152 : Shape := ⟨3, ![1, 32, 1152]⟩
abbrev S32x32x384 : Shape := ⟨3, ![32, 32, 384]⟩
abbrev S32x1x384 : Shape := ⟨3, ![32, 1, 384]⟩
abbrev S32x31x384 : Shape := ⟨3, ![32, 31, 384]⟩
abbrev S512x256 : Shape := ⟨2, ![512, 256]⟩
abbrev S16x32x1152 : Shape := ⟨3, ![16, 32, 1152]⟩
abbrev S512x1152 : Shape := ⟨2, ![512, 1152]⟩
abbrev S1x1152x256 : Shape := ⟨3, ![1, 1152, 256]⟩
abbrev S1152x256 : Shape := ⟨2, ![1152, 256]⟩
abbrev S16x32x256 : Shape := ⟨3, ![16, 32, 256]⟩
abbrev S1x16x32x256 : Shape := ⟨4, ![1, 16, 32, 256]⟩
abbrev S1x32x32x256 : Shape := ⟨4, ![1, 32, 32, 256]⟩
abbrev S32x32x256 : Shape := ⟨3, ![32, 32, 256]⟩
abbrev S1x1x256 : Shape := ⟨3, ![1, 1, 256]⟩
abbrev S32x1x256 : Shape := ⟨3, ![32, 1, 256]⟩
abbrev S32x31x256 : Shape := ⟨3, ![32, 31, 256]⟩
abbrev S16x32x768 : Shape := ⟨3, ![16, 32, 768]⟩
abbrev S512x768 : Shape := ⟨2, ![512, 768]⟩
abbrev S1x768x256 : Shape := ⟨3, ![1, 768, 256]⟩
abbrev S768x256 : Shape := ⟨2, ![768, 256]⟩
abbrev S512x128 : Shape := ⟨2, ![512, 128]⟩
abbrev S1x768x128 : Shape := ⟨3, ![1, 768, 128]⟩
abbrev S768x128 : Shape := ⟨2, ![768, 128]⟩
abbrev S512x1 : Shape := ⟨2, ![512, 1]⟩
abbrev S1x512x1 : Shape := ⟨3, ![1, 512, 1]⟩
abbrev S16x32x32x1 : Shape := ⟨4, ![16, 32, 32, 1]⟩

abbrev nBuf : Space → Nat
  | .hbm => 32
  | .vmem => 19
  | .smem => 0
  | _ => 0

abbrev bufTy : (tb : Table) → Fin (tcTables nBuf tb) → BufTy
  | .hbm, ⟨0, _⟩ => ⟨S16x32x32x384, .f32⟩
  | .hbm, ⟨1, _⟩ => ⟨S256x384x3x3, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x256x3x3, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x256x3x3, .f32⟩
  | .hbm, ⟨10, _⟩ => ⟨S1, .f32⟩
  | .hbm, ⟨11, _⟩ => ⟨S256x384x3x3, .bf16⟩
  | .hbm, ⟨12, _⟩ => ⟨S3x3x384x256, .bf16⟩
  | .hbm, ⟨13, _⟩ => ⟨S3x1152x256, .bf16⟩
  | .hbm, ⟨14, _⟩ => ⟨S256x256x3x3, .bf16⟩
  | .hbm, ⟨15, _⟩ => ⟨S3x3x256x256, .bf16⟩
  | .hbm, ⟨16, _⟩ => ⟨S3x768x256, .bf16⟩
  | .hbm, ⟨17, _⟩ => ⟨S1x256x3x3, .bf16⟩
  | .hbm, ⟨18, _⟩ => ⟨S3x3x256x1, .bf16⟩
  | .hbm, ⟨19, _⟩ => ⟨S3x768x1, .bf16⟩
  | .hbm, ⟨20, _⟩ => ⟨S_, .i32⟩
  | .hbm, ⟨21, _⟩ => ⟨S_, .bf16⟩
  | .hbm, ⟨22, _⟩ => ⟨S3x768x128, .bf16⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x1, .f32⟩
  | .hbm, ⟨30, _⟩ => ⟨S16x1024x1, .f32⟩
  | .hbm, ⟨31, _⟩ => ⟨S16x32x32x1, .f32⟩
  | .local _ .vmem, ⟨0, _⟩ => ⟨S1x32x32x384, .f32⟩
  | .local _ .vmem, ⟨1, _⟩ => ⟨S1x32x32x384, .f32⟩
  | .local _ .vmem, ⟨2, _⟩ => ⟨S3x1152x256, .bf16⟩
  | .local _ .vmem, ⟨3, _⟩ => ⟨S3x768x256, .bf16⟩
  | .local _ .vmem, ⟨4, _⟩ => ⟨S3x768x128, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x1, .f32⟩
  | .local _ .vmem, ⟨12, _⟩ => ⟨S1x1024x1, .f32⟩
  | .local _ .vmem, ⟨13, _⟩ => ⟨S1x1024x1, .f32⟩
  | .local _ .vmem, ⟨14, _⟩ => ⟨S16x32x32x256, .bf16⟩
  | .local _ .vmem, ⟨15, _⟩ => ⟨S16x32x32x256, .bf16⟩
  | .local _ .vmem, ⟨16, _⟩ => ⟨S2x256, .f32⟩
  | .local _ .vmem, ⟨17, _⟩ => ⟨S2x256, .f32⟩
  | .local _ .vmem, ⟨18, _⟩ => ⟨S34x32x1152, .bf16⟩
  | _, _ => ⟨S16x32x32x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_off1 (i : grid0.Coords) : Fin 4 → Nat :=
  let arg0 : BitVec 32 := BitVec.ofNat 32 (i 0).val
  let v76 : Index := Scalar.indexCast arg0
  let c0_57 : Index := 0#32
  let c0_58 : Index := 0#32
  let c0_59 : Index := 0#32
  ![v76.toNat, 0, 0, 0]
def k0_off2 (i : grid0.Coords) : Fin 4 → Nat :=
  let arg0 : BitVec 32 := BitVec.ofNat 32 (i 0).val
  let v94 : Index := Scalar.indexCast arg0
  let c16_66 : Index := 16#32
  let c0_67 : Index := 0#32
  let c0_68 : Index := 0#32
  ![v94.toNat, 16, 0, 0]
def k0_cond5 (i : grid0.Coords) : BitVec 1 :=
  let arg0 : BitVec 32 := BitVec.ofNat 32 (i 0).val
  let c16_i32_2 : BitVec 32 := 16#32
  let v6 : BitVec 1 := Scalar.cmpi .sge arg0 c16_i32_2
  let c32_i32 : BitVec 32 := 32#32
  let v7 : BitVec 1 := Scalar.cmpi .slt arg0 c32_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off3 (i : grid0.Coords) : Fin 4 → Nat :=
  let arg0 : BitVec 32 := BitVec.ofNat 32 (i 0).val
  let c16_i32_6 : BitVec 32 := 16#32
  let v14 : BitVec 32 := Scalar.subi arg0 c16_i32_6
  let v35 : Index := Scalar.indexCast v14
  let c0_15 : Index := 0#32
  let c0_16 : Index := 0#32
  let c0_17 : Index := 0#32
  ![v35.toNat, 0, 0, 0]
def k0_off4 (i : grid0.Coords) : Fin 4 → Nat :=
  let arg0 : BitVec 32 := BitVec.ofNat 32 (i 0).val
  let c16_i32_6 : BitVec 32 := 16#32
  let v14 : BitVec 32 := Scalar.subi arg0 c16_i32_6
  let v107 : Index := Scalar.indexCast v14
  let c0_69 : Index := 0#32
  let c0_70 : Index := 0#32
  let c0_71 : Index := 0#32
  ![v107.toNat, 0, 0, 0]
def k0_off5 (i : grid0.Coords) : Fin 4 → Nat :=
  let arg0 : BitVec 32 := BitVec.ofNat 32 (i 0).val
  let c16_i32_6 : BitVec 32 := 16#32
  let v14 : BitVec 32 := Scalar.subi arg0 c16_i32_6
  let v125 : Index := Scalar.indexCast v14
  let c16_78 : Index := 16#32
  let c0_79 : Index := 0#32
  let c0_80 : Index := 0#32
  ![v125.toNat, 16, 0, 0]
def k0_cond8 (i : grid0.Coords) : BitVec 1 :=
  let arg0 : BitVec 32 := BitVec.ofNat 32 (i 0).val
  let c32_i32_4 : BitVec 32 := 32#32
  let v11 : BitVec 1 := Scalar.cmpi .sge arg0 c32_i32_4
  let v12 : BitVec 32 := Scalar.extui v11
  let c0_i32_5 : BitVec 32 := 0#32
  let v13 : BitVec 1 := Scalar.cmpi .ne v12 c0_i32_5
  v13

def k0_off6 (i : grid0.Coords) : Fin 4 → Nat :=
  let arg0 : BitVec 32 := BitVec.ofNat 32 (i 0).val
  let c32_i32_6 : BitVec 32 := 32#32
  let v14 : BitVec 32 := Scalar.subi arg0 c32_i32_6
  let v35 : Index := Scalar.indexCast v14
  let c0_15 : Index := 0#32
  let c0_16 : Index := 0#32
  let c0_17 : Index := 0#32
  ![v35.toNat, 0, 0, 0]
def cc0_transform_0 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x32x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1152x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x768x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16x32x32x384 : Shape := ⟨4, ![16, 32, 32, 384]⟩
abbrev S256x384x3x3 : Shape := ⟨4, ![256, 384, 3, 3]⟩
abbrev S256 : Shape := ⟨1, ![256]⟩
abbrev S256x256x3x3 : Shape := ⟨4, ![256, 256, 3, 3]⟩
abbrev S1x256x3x3 : Shape := ⟨4, ![1, 256, 3, 3]⟩
abbrev S1 : Shape := ⟨1, ![1]⟩
abbrev S_ : Shape := ⟨0, ![]⟩
abbrev S16x34x34x384 : Shape := ⟨4, ![16, 34, 34, 384]⟩
abbrev S256x384x1x1 : Shape := ⟨4, ![256, 384, 1, 1]⟩
abbrev S256x384 : Shape := ⟨2, ![256, 384]⟩
abbrev S16x32x32x256 : Shape := ⟨4, ![16, 32, 32, 256]⟩
abbrev S1x1x1x256 : Shape := ⟨4, ![1, 1, 1, 256]⟩
abbrev S16x34x34x256 : Shape := ⟨4, ![16, 34, 34, 256]⟩
abbrev S256x256x1x1 : Shape := ⟨4, ![256, 256, 1, 1]⟩
abbrev S256x256 : Shape := ⟨2, ![256, 256]⟩
abbrev S1x256x1x1 : Shape := ⟨4, ![1, 256, 1, 1]⟩
abbrev S1x256 : Shape := ⟨2, ![1, 256]⟩
abbrev S16x32x32x1 : Shape := ⟨4, ![16, 32, 32, 1]⟩
abbrev S1x1x1x1 : Shape := ⟨4, ![1, 1, 1, 1]⟩

abbrev nBuf : Space → Nat
  | .hbm => 272
  | .vmem => 0
  | .smem => 0
  | _ => 0

abbrev hbmTy0_0 (i : Nat) : BufTy := match i % 128 with
  | 0 => ⟨S16x32x32x384, .f32⟩
  | 1 => ⟨S256x384x3x3, .f32⟩
  | 2 => ⟨S256, .f32⟩
  | 3 => ⟨S256, .f32⟩
  | 4 => ⟨S256, .f32⟩
  | 5 => ⟨S256x256x3x3, .f32⟩
  | 6 => ⟨S256, .f32⟩
  | 7 => ⟨S256, .f32⟩
  | 8 => ⟨S256, .f32⟩
  | 9 => ⟨S1x256x3x3, .f32⟩
  | 10 => ⟨S1, .f32⟩
  | 11 => ⟨S_, .i32⟩
  | 12 => ⟨S_, .f32⟩
  | 13 => ⟨S16x34x34x384, .f32⟩
  | 14 => ⟨S16x32x32x384, .f32⟩
  | 15 => ⟨S256x384x1x1, .f32⟩
  | 16 => ⟨S256x384, .f32⟩
  | 17 => ⟨S16x32x32x256, .f32⟩
  | 18 => ⟨S_, .f32⟩
  | 19 => ⟨S16x32x32x256, .f32⟩
  | 20 => ⟨S16x32x32x256, .f32⟩
  | 21 => ⟨S16x32x32x384, .f32⟩
  | 22 => ⟨S256x384x1x1, .f32⟩
  | 23 => ⟨S256x384, .f32⟩
  | 24 => ⟨S16x32x32x256, .f32⟩
  | 25 => ⟨S16x32x32x256, .f32⟩
  | 26 => ⟨S16x32x32x384, .f32⟩
  | 27 => ⟨S256x384x1x1, .f32⟩
  | 28 => ⟨S256x384, .f32⟩
  | 29 => ⟨S16x32x32x256, .f32⟩
  | 30 => ⟨S16x32x32x256, .f32⟩
  | 31 => ⟨S16x32x32x384, .f32⟩
  | 32 => ⟨S256x384x1x1, .f32⟩
  | 33 => ⟨S256x384, .f32⟩
  | 34 => ⟨S16x32x32x256, .f32⟩
  | 35 => ⟨S16x32x32x256, .f32⟩
  | 36 => ⟨S16x32x32x384, .f32⟩
  | 37 => ⟨S256x384x1x1, .f32⟩
  | 38 => ⟨S256x384, .f32⟩
  | 39 => ⟨S16x32x32x256, .f32⟩
  | 40 => ⟨S16x32x32x256, .f32⟩
  | 41 => ⟨S16x32x32x384, .f32⟩
  | 42 => ⟨S256x384x1x1, .f32⟩
  | 43 => ⟨S256x384, .f32⟩
  | 44 => ⟨S16x32x32x256, .f32⟩
  | 45 => ⟨S16x32x32x256, .f32⟩
  | 46 => ⟨S16x32x32x384, .f32⟩
  | 47 => ⟨S256x384x1x1, .f32⟩
  | 48 => ⟨S256x384, .f32⟩
  | 49 => ⟨S16x32x32x256, .f32⟩
  | 50 => ⟨S16x32x32x256, .f32⟩
  | 51 => ⟨S16x32x32x384, .f32⟩
  | 52 => ⟨S256x384x1x1, .f32⟩
  | 53 => ⟨S256x384, .f32⟩
  | 54 => ⟨S16x32x32x256, .f32⟩
  | 55 => ⟨S16x32x32x256, .f32⟩
  | 56 => ⟨S16x32x32x384, .f32⟩
  | 57 => ⟨S256x384x1x1, .f32⟩
  | 58 => ⟨S256x384, .f32⟩
  | 59 => ⟨S16x32x32x256, .f32⟩
  | 60 => ⟨S16x32x32x256, .f32⟩
  | 61 => ⟨S1x1x1x256, .f32⟩
  | 62 => ⟨S16x32x32x256, .f32⟩
  | 63 => ⟨S16x32x32x256, .f32⟩
  | 64 => ⟨S_, .f32⟩
  | 65 => ⟨S256, .f32⟩
  | 66 => ⟨S1x1x1x256, .f32⟩
  | 67 => ⟨S_, .f32⟩
  | 68 => ⟨S1x1x1x256, .f32⟩
  | 69 => ⟨S1x1x1x256, .f32⟩
  | 70 => ⟨S_, .i32⟩
  | 71 => ⟨S_, .f32⟩
  | 72 => ⟨S256, .f32⟩
  | 73 => ⟨S1x1x1x256, .f32⟩
  | 74 => ⟨S_, .f32⟩
  | 75 => ⟨S1x1x1x256, .f32⟩
  | 76 => ⟨S1x1x1x256, .f32⟩
  | 77 => ⟨S16x32x32x256, .f32⟩
  | 78 => ⟨S16x32x32x256, .f32⟩
  | 79 => ⟨S16x32x32x256, .f32⟩
  | 80 => ⟨S_, .f32⟩
  | 81 => ⟨S_, .f32⟩
  | 82 => ⟨S_, .f32⟩
  | 83 => ⟨S_, .f32⟩
  | 84 => ⟨S256, .f32⟩
  | 85 => ⟨S1x1x1x256, .f32⟩
  | 86 => ⟨S1x1x1x256, .f32⟩
  | 87 => ⟨S1x1x1x256, .f32⟩
  | 88 => ⟨S_, .f32⟩
  | 89 => ⟨S_, .i1⟩
  | 90 => ⟨S_, .f32⟩
  | 91 => ⟨S_, .f32⟩
  | 92 => ⟨S1x1x1x256, .f32⟩
  | 93 => ⟨S1x1x1x256, .f32⟩
  | 94 => ⟨S16x32x32x256, .f32⟩
  | 95 => ⟨S16x32x32x256, .f32⟩
  | 96 => ⟨S_, .f32⟩
  | 97 => ⟨S1x1x1x256, .f32⟩
  | 98 => ⟨S1x1x1x256, .f32⟩
  | 99 => ⟨S1x1x1x256, .f32⟩
  | 100 => ⟨S16x32x32x256, .f32⟩
  | 101 => ⟨S16x32x32x256, .f32⟩
  | 102 => ⟨S1x1x1x256, .f32⟩
  | 103 => ⟨S16x32x32x256, .f32⟩
  | 104 => ⟨S16x32x32x256, .f32⟩
  | 105 => ⟨S1x1x1x256, .f32⟩
  | 106 => ⟨S16x32x32x256, .f32⟩
  | 107 => ⟨S16x32x32x256, .f32⟩
  | 108 => ⟨S_, .f32⟩
  | 109 => ⟨S16x32x32x256, .f32⟩
  | 110 => ⟨S16x32x32x256, .f32⟩
  | 111 => ⟨S_, .i32⟩
  | 112 => ⟨S_, .f32⟩
  | 113 => ⟨S16x34x34x256, .f32⟩
  | 114 => ⟨S16x32x32x256, .f32⟩
  | 115 => ⟨S256x256x1x1, .f32⟩
  | 116 => ⟨S256x256, .f32⟩
  | 117 => ⟨S16x32x32x256, .f32⟩
  | 118 => ⟨S_, .f32⟩
  | 119 => ⟨S16x32x32x256, .f32⟩
  | 120 => ⟨S16x32x32x256, .f32⟩
  | 121 => ⟨S16x32x32x256, .f32⟩
  | 122 => ⟨S256x256x1x1, .f32⟩
  | 123 => ⟨S256x256, .f32⟩
  | 124 => ⟨S16x32x32x256, .f32⟩
  | 125 => ⟨S16x32x32x256, .f32⟩
  | 126 => ⟨S16x32x32x256, .f32⟩
  | 127 => ⟨S256x256x1x1, .f32⟩
  | _ => ⟨S16x32x32x384, .f32⟩

abbrev hbmTy0_1 (i : Nat) : BufTy := match i % 128 with
  | 0 => ⟨S256x256, .f32⟩
  | 1 => ⟨S16x32x32x256, .f32⟩
  | 2 => ⟨S16x32x32x256, .f32⟩
  | 3 => ⟨S16x32x32x256, .f32⟩
  | 4 => ⟨S256x256x1x1, .f32⟩
  | 5 => ⟨S256x256, .f32⟩
  | 6 => ⟨S16x32x32x256, .f32⟩
  | 7 => ⟨S16x32x32x256, .f32⟩
  | 8 => ⟨S16x32x32x256, .f32⟩
  | 9 => ⟨S256x256x1x1, .f32⟩
  | 10 => ⟨S256x256, .f32⟩
  | 11 => ⟨S16x32x32x256, .f32⟩
  | 12 => ⟨S16x32x32x256, .f32⟩
  | 13 => ⟨S16x32x32x256, .f32⟩
  | 14 => ⟨S256x256x1x1, .f32⟩
  | 15 => ⟨S256x256, .f32⟩
  | 16 => ⟨S16x32x32x256, .f32⟩
  | 17 => ⟨S16x32x32x256, .f32⟩
  | 18 => ⟨S16x32x32x256, .f32⟩
  | 19 => ⟨S256x256x1x1, .f32⟩
  | 20 => ⟨S256x256, .f32⟩
  | 21 => ⟨S16x32x32x256, .f32⟩
  | 22 => ⟨S16x32x32x256, .f32⟩
  | 23 => ⟨S16x32x32x256, .f32⟩
  | 24 => ⟨S256x256x1x1, .f32⟩
  | 25 => ⟨S256x256, .f32⟩
  | 26 => ⟨S16x32x32x256, .f32⟩
  | 27 => ⟨S16x32x32x256, .f32⟩
  | 28 => ⟨S16x32x32x256, .f32⟩
  | 29 => ⟨S256x256x1x1, .f32⟩
  | 30 => ⟨S256x256, .f32⟩
  | 31 => ⟨S16x32x32x256, .f32⟩
  | 32 => ⟨S16x32x32x256, .f32⟩
  | 33 => ⟨S1x1x1x256, .f32⟩
  | 34 => ⟨S16x32x32x256, .f32⟩
  | 35 => ⟨S16x32x32x256, .f32⟩
  | 36 => ⟨S_, .f32⟩
  | 37 => ⟨S256, .f32⟩
  | 38 => ⟨S1x1x1x256, .f32⟩
  | 39 => ⟨S_, .f32⟩
  | 40 => ⟨S1x1x1x256, .f32⟩
  | 41 => ⟨S1x1x1x256, .f32⟩
  | 42 => ⟨S_, .i32⟩
  | 43 => ⟨S_, .f32⟩
  | 44 => ⟨S256, .f32⟩
  | 45 => ⟨S1x1x1x256, .f32⟩
  | 46 => ⟨S_, .f32⟩
  | 47 => ⟨S1x1x1x256, .f32⟩
  | 48 => ⟨S1x1x1x256, .f32⟩
  | 49 => ⟨S16x32x32x256, .f32⟩
  | 50 => ⟨S16x32x32x256, .f32⟩
  | 51 => ⟨S16x32x32x256, .f32⟩
  | 52 => ⟨S_, .f32⟩
  | 53 => ⟨S_, .f32⟩
  | 54 => ⟨S_, .f32⟩
  | 55 => ⟨S_, .f32⟩
  | 56 => ⟨S256, .f32⟩
  | 57 => ⟨S1x1x1x256, .f32⟩
  | 58 => ⟨S1x1x1x256, .f32⟩
  | 59 => ⟨S1x1x1x256, .f32⟩
  | 60 => ⟨S_, .f32⟩
  | 61 => ⟨S_, .i1⟩
  | 62 => ⟨S_, .f32⟩
  | 63 => ⟨S_, .f32⟩
  | 64 => ⟨S1x1x1x256, .f32⟩
  | 65 => ⟨S1x1x1x256, .f32⟩
  | 66 => ⟨S16x32x32x256, .f32⟩
  | 67 => ⟨S16x32x32x256, .f32⟩
  | 68 => ⟨S_, .f32⟩
  | 69 => ⟨S1x1x1x256, .f32⟩
  | 70 => ⟨S1x1x1x256, .f32⟩
  | 71 => ⟨S1x1x1x256, .f32⟩
  | 72 => ⟨S16x32x32x256, .f32⟩
  | 73 => ⟨S16x32x32x256, .f32⟩
  | 74 => ⟨S1x1x1x256, .f32⟩
  | 75 => ⟨S16x32x32x256, .f32⟩
  | 76 => ⟨S16x32x32x256, .f32⟩
  | 77 => ⟨S1x1x1x256, .f32⟩
  | 78 => ⟨S16x32x32x256, .f32⟩
  | 79 => ⟨S16x32x32x256, .f32⟩
  | 80 => ⟨S_, .f32⟩
  | 81 => ⟨S16x32x32x256, .f32⟩
  | 82 => ⟨S16x32x32x256, .f32⟩
  | 83 => ⟨S_, .i32⟩
  | 84 => ⟨S_, .f32⟩
  | 85 => ⟨S16x34x34x256, .f32⟩
  | 86 => ⟨S16x32x32x256, .f32⟩
  | 87 => ⟨S1x256x1x1, .f32⟩
  | 88 => ⟨S1x256, .f32⟩
  | 89 => ⟨S16x32x32x1, .f32⟩
  | 90 => ⟨S_, .f32⟩
  | 91 => ⟨S16x32x32x1, .f32⟩
  | 92 => ⟨S16x32x32x1, .f32⟩
  | 93 => ⟨S16x32x32x256, .f32⟩
  | 94 => ⟨S1x256x1x1, .f32⟩
  | 95 => ⟨S1x256, .f32⟩
  | 96 => ⟨S16x32x32x1, .f32⟩
  | 97 => ⟨S16x32x32x1, .f32⟩
  | 98 => ⟨S16x32x32x256, .f32⟩
  | 99 => ⟨S1x256x1x1, .f32⟩
  | 100 => ⟨S1x256, .f32⟩
  | 101 => ⟨S16x32x32x1, .f32⟩
  | 102 => ⟨S16x32x32x1, .f32⟩
  | 103 => ⟨S16x32x32x256, .f32⟩
  | 104 => ⟨S1x256x1x1, .f32⟩
  | 105 => ⟨S1x256, .f32⟩
  | 106 => ⟨S16x32x32x1, .f32⟩
  | 107 => ⟨S16x32x32x1, .f32⟩
  | 108 => ⟨S16x32x32x256, .f32⟩
  | 109 => ⟨S1x256x1x1, .f32⟩
  | 110 => ⟨S1x256, .f32⟩
  | 111 => ⟨S16x32x32x1, .f32⟩
  | 112 => ⟨S16x32x32x1, .f32⟩
  | 113 => ⟨S16x32x32x256, .f32⟩
  | 114 => ⟨S1x256x1x1, .f32⟩
  | 115 => ⟨S1x256, .f32⟩
  | 116 => ⟨S16x32x32x1, .f32⟩
  | 117 => ⟨S16x32x32x1, .f32⟩
  | 118 => ⟨S16x32x32x256, .f32⟩
  | 119 => ⟨S1x256x1x1, .f32⟩
  | 120 => ⟨S1x256, .f32⟩
  | 121 => ⟨S16x32x32x1, .f32⟩
  | 122 => ⟨S16x32x32x1, .f32⟩
  | 123 => ⟨S16x32x32x256, .f32⟩
  | 124 => ⟨S1x256x1x1, .f32⟩
  | 125 => ⟨S1x256, .f32⟩
  | 126 => ⟨S16x32x32x1, .f32⟩
  | 127 => ⟨S16x32x32x1, .f32⟩
  | _ => ⟨S16x32x32x384, .f32⟩

abbrev hbmTy0_2 (i : Nat) : BufTy := match i % 128 with
  | 0 => ⟨S16x32x32x256, .f32⟩
  | 1 => ⟨S1x256x1x1, .f32⟩
  | 2 => ⟨S1x256, .f32⟩
  | 3 => ⟨S16x32x32x1, .f32⟩
  | 4 => ⟨S16x32x32x1, .f32⟩
  | 5 => ⟨S1x1x1x1, .f32⟩
  | 6 => ⟨S16x32x32x1, .f32⟩
  | 7 => ⟨S16x32x32x1, .f32⟩
  | 8 => ⟨S16x32x32x1, .f32⟩
  | 9 => ⟨S16x32x32x1, .f32⟩
  | 10 => ⟨S_, .f32⟩
  | 11 => ⟨S16x32x32x1, .f32⟩
  | 12 => ⟨S16x32x32x1, .f32⟩
  | 13 => ⟨S_, .f32⟩
  | 14 => ⟨S16x32x32x1, .f32⟩
  | 15 => ⟨S16x32x32x1, .f32⟩
  | _ => ⟨S16x32x32x384, .f32⟩

abbrev hbmTy (i : Nat) : BufTy := match i / 128 with
  | 0 => hbmTy0_0 i
  | 1 => hbmTy0_1 i
  | 2 => hbmTy0_2 i
  | _ => ⟨S16x32x32x384, .f32⟩

abbrev bufTy : (tb : Table) → Fin (tcTables nBuf tb) → BufTy
  | .hbm, ⟨i, _⟩ => hbmTy i
  | _, _ => ⟨S16x32x32x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_0 : Ref sig .tc := ⟨.hbm, 64, rfl⟩
abbrev main_v50 : Ref sig .tc := ⟨.hbm, 65, rfl⟩
abbrev main_v51 : Ref sig .tc := ⟨.hbm, 66, rfl⟩
abbrev main_cst_1 : Ref sig .tc := ⟨.hbm, 67, rfl⟩
abbrev main_v52 : Ref sig .tc := ⟨.hbm, 68, rfl⟩
abbrev main_v53 : Ref sig .tc := ⟨.hbm, 69, rfl⟩
abbrev main_c_2 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_cst_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_cst_1 : Ref sig .tc := ⟨.hbm, 81, rfl⟩
abbrev main_call1_v8 : Ref sig .tc := ⟨.hbm, 82, rfl⟩
abbrev main_call1_cst_2 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_v12 : Ref sig .tc := ⟨.hbm, 87, rfl⟩
abbrev main_call1_cst_3 : Ref sig .tc := ⟨.hbm, 88, rfl⟩
abbrev main_call1_v13 : Ref sig .tc := ⟨.hbm, 89, rfl⟩
abbrev main_call1_cst_4 : Ref sig .tc := ⟨.hbm, 90, rfl⟩
abbrev main_call1_call0_v0 : Ref sig .tc := ⟨.hbm, 91, rfl⟩
abbrev main_call1_call0_v1 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_3 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_call2_cst : Ref sig .tc := ⟨.hbm, 108, rfl⟩
abbrev main_call2_v0 : Ref sig .tc := ⟨.hbm, 109, rfl⟩
abbrev main_v68 : Ref sig .tc := ⟨.hbm, 110, rfl⟩
abbrev main_c_4 : Ref sig .tc := ⟨.hbm, 111, rfl⟩
abbrev main_call3_v0 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_5 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_6 : Ref sig .tc := ⟨.hbm, 164, rfl⟩
abbrev main_v119 : Ref sig .tc := ⟨.hbm, 165, rfl⟩
abbrev main_v120 : Ref sig .tc := ⟨.hbm, 166, rfl⟩
abbrev main_cst_7 : Ref sig .tc := ⟨.hbm, 167, rfl⟩
abbrev main_v121 : Ref sig .tc := ⟨.hbm, 168, rfl⟩
abbrev main_v122 : Ref sig .tc := ⟨.hbm, 169, rfl⟩
abbrev main_c_8 : Ref sig .tc := ⟨.hbm, 170, rfl⟩
abbrev main_call4_cst : Ref sig .tc := ⟨.hbm, 171, rfl⟩
abbrev main_call4_v0 : Ref sig .tc := ⟨.hbm, 172, rfl⟩
abbrev main_call4_v1 : Ref sig .tc := ⟨.hbm, 173, rfl⟩
abbrev main_call4_cst_0 : Ref sig .tc := ⟨.hbm, 174, rfl⟩
abbrev main_call4_v2 : Ref sig .tc := ⟨.hbm, 175, rfl⟩
abbrev main_call4_v3 : Ref sig .tc := ⟨.hbm, 176, rfl⟩
abbrev main_call4_v4 : Ref sig .tc := ⟨.hbm, 177, rfl⟩
abbrev main_call4_v5 : Ref sig .tc := ⟨.hbm, 178, rfl⟩
abbrev main_call4_v6 : Ref sig .tc := ⟨.hbm, 179, rfl⟩
abbrev main_call4_v7 : Ref sig .tc := ⟨.hbm, 180, rfl⟩
abbrev main_call4_cst_1 : Ref sig .tc := ⟨.hbm, 181, rfl⟩
abbrev main_call4_v8 : Ref sig .tc := ⟨.hbm, 182, rfl⟩
abbrev main_call4_cst_2 : Ref sig .tc := ⟨.hbm, 183, rfl⟩
abbrev main_call4_v9 : Ref sig .tc := ⟨.hbm, 184, rfl⟩
abbrev main_call4_v10 : Ref sig .tc := ⟨.hbm, 185, rfl⟩
abbrev main_call4_v11 : Ref sig .tc := ⟨.hbm, 186, rfl⟩
abbrev main_call4_v12 : Ref sig .tc := ⟨.hbm, 187, rfl⟩
abbrev main_call4_cst_3 : Ref sig .tc := ⟨.hbm, 188, rfl⟩
abbrev main_call4_v13 : Ref sig .tc := ⟨.hbm, 189, rfl⟩
abbrev main_call4_cst_4 : Ref sig .tc := ⟨.hbm, 190, rfl⟩
abbrev main_call4_call0_v0 : Ref sig .tc := ⟨.hbm, 191, rfl⟩
abbrev main_call4_call0_v1 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_cst_9 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_call5_cst : Ref sig .tc := ⟨.hbm, 208, rfl⟩
abbrev main_call5_v0 : Ref sig .tc := ⟨.hbm, 209, rfl⟩
abbrev main_v137 : Ref sig .tc := ⟨.hbm, 210, rfl⟩
abbrev main_c_10 : Ref sig .tc := ⟨.hbm, 211, rfl⟩
abbrev main_call6_v0 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_cst_11 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_cst_12 : Ref sig .tc := ⟨.hbm, 266, rfl⟩
abbrev main_v190 : Ref sig .tc := ⟨.hbm, 267, rfl⟩
abbrev main_v191 : Ref sig .tc := ⟨.hbm, 268, rfl⟩
abbrev main_cst_13 : Ref sig .tc := ⟨.hbm, 269, rfl⟩
abbrev main_v192 : Ref sig .tc := ⟨.hbm, 270, rfl⟩
abbrev main_v193 : Ref sig .tc := ⟨.hbm, 271, rfl⟩

abbrev nD : Nat := 1
abbrev τ : Topo := Topo.v7x

variable {F : FTy → Type} [FloatOps F]
-- ==== Proof.Spec.lean ====
/-
  What one grid point of the fused kernel computes, as functions of the contents of its buffers: the padded slab of a block (three
  column-shifted copies side by side), the two half-block accumulators read off the slab, and what is stored from them.
-/
module

public import proofs.«01_k».proof.Proof.Gen.KernelIdeal.Frame
public import proofs.«01_k».proof.Proof.Gen.KernelIdeal.Skeleton
public import Idealize.ShloMosaic.Lib.Claim
public import Idealize.ShloMosaic.Lib.Pipeline.Value

@[expose] public section

noncomputable section

namespace Cert.KernelIdeal.Spec

open Cert.KernelIdeal Cert.KernelIdeal.Gen
open Idealize.ShloMosaic

/-! ## Contents after a list of stores -/

section Over

variable {Val : EltTy → Type} {s : Shape} {e : EltTy}

/-- The contents `X` after the stores `L` (the last one first). -/
def over (X : s.Idx → Val e) : List (View.Piece Val s e) → s.Idx → Val e
  | [] => X
  | p :: L => p.1.overlay (over X L) p.2

theorem over_cons_emb (X : s.Idx → Val e) (r : Rect s) (w : r.shape.Idx → Val e) (L : List (View.Piece Val s e)) (x : r.shape.Idx) :
    over X (⟨r, w⟩ :: L) (r.emb x) = w x := r.overlay_emb _ _ x

theorem over_cons_of_not_mem (X : s.Idx → Val e) (p : View.Piece Val s e) (L : List (View.Piece Val s e)) {y : s.Idx}
    (h : y ∉ p.1.set) : over X (p :: L) y = over X L y := p.1.overlay_of_not_mem _ _ h

/-- Reading a buffer after stores is the contents before them with the stored blocks laid over. -/
theorem read_writes_eq_over {sig : RefSig} {κ : Kind} {sp : Space} (v : View sig κ sp s e) (f : v.ty.Contents Val) :
    ∀ L : List (View.Piece Val s e), v.read Val (v.writes Val f L) = over (v.read Val f) L
  | [] => rfl
  | p :: L => by
    funext y
    by_cases hy : y ∈ p.1.set
    · obtain ⟨r, w⟩ := p
      obtain ⟨x, rfl⟩ : ∃ x, r.emb x = y := r.exists_idx_of_mem hy
      rw [View.read_writes_cons_emb, over_cons_emb]
    · rw [View.read_writes_cons_miss v f p L y hy, over_cons_of_not_mem _ _ _ hy, read_writes_eq_over v f L]

/-- At an index some store covers, the contents before do not matter. -/
theorem over_congr (X X' : s.Idx → Val e) (y : s.Idx) :
    ∀ L : List (View.Piece Val s e), (∃ p ∈ L, y ∈ p.1.set) → over X L y = over X' L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      rw [over_cons_emb, over_cons_emb]
    · rw [over_cons_of_not_mem _ _ _ hy, over_cons_of_not_mem _ _ _ hy]
      refine over_congr X X' y L ?_
      obtain ⟨q, hq, hm⟩ := h
      rcases List.mem_cons.mp hq with rfl | hq'
      · exact absurd hm hy
      · exact ⟨q, hq', hm⟩

theorem over_append (X : s.Idx → Val e) (Z : List (View.Piece Val s e)) :
    ∀ L : List (View.Piece Val s e), over X (L ++ Z) = over (over X Z) L
  | [] => rfl
  | p :: L => by
    show p.1.overlay (over X (L ++ Z)) p.2 = p.1.overlay (over (over X Z) L) p.2
    rw [over_append X Z L]

/-- Stores that write what is there already change nothing. -/
theorem over_of_eq (X : s.Idx → Val e) :
    ∀ L : List (View.Piece Val s e), (∀ p ∈ L, ∀ x : p.1.shape.Idx, p.2 x = X (p.1.emb x)) → over X L = X
  | [], _ => rfl
  | p :: L, h => by
    funext y
    by_cases hy : y ∈ p.1.set
    · obtain ⟨x, hx⟩ := p.1.exists_idx_of_mem hy
      have hx' : p.1.emb x = y := hx
      subst hx'
      have e1 := over_cons_emb (Val := Val) (e := e) X p.1 p.2 L x
      exact e1.trans (h p List.mem_cons_self x)
    · rw [over_cons_of_not_mem _ _ _ hy, over_of_eq X L fun q hq => h q (List.mem_cons_of_mem _ hq)]

/-- A load of a box that the stores cover reads the same whatever was there before. -/
theorem readCov_eq_over [∀ e, Nonempty (Val e)] {sig : RefSig} {κ : Kind} {sp : Space} (v : View sig κ sp s e)
    (X : s.Idx → Val e) (L : List (View.Piece Val s e)) (r : Rect s)
    (h : ∀ j : r.shape.Idx, ∃ p ∈ L, r.emb j ∈ p.1.set) : v.readCov L r.toLoadRect = View.ld (over X L) r := by
  funext j
  show v.read Val (v.writes Val v.junk L) (r.emb j) = over X L (r.emb j)
  rw [read_writes_eq_over]
  exact over_congr _ _ _ L (h j)

end Over

variable {F : FTy → Type} [FloatOps F]

/-! ## The slab -/

/-- The slab's rows 0 and 33, the zero rows above and below the image. -/
def zeroRows : List (View.Piece (Elt F) S34x32x1152 .bf16) :=
  [⟨Rect.unit (s := S34x32x1152) ![33, 0, 0] S1x32x1152.size inb_S34x32x1152_S1x32x1152_33_0_0, k0_pay3⟩,
   ⟨Rect.unit (s := S34x32x1152) ![0, 0, 0] S1x32x1152.size inb_S34x32x1152_S1x32x1152_0_0_0, k0_pay2⟩]

/-- The three column-shifted copies of an image with 384 channels, side by side. -/
def pieces1 (x : Vec F S1x32x32x384 .f32) : List (View.Piece (Elt F) S34x32x1152 .bf16) :=
  [⟨Rect.unit (s := S34x32x1152) ![1, 0, 768] S32x32x384.size inb_S34x32x1152_S32x32x384_1_0_768, k0_pay17 x⟩,
   ⟨Rect.unit (s := S34x32x1152) ![1, 0, 384] S32x32x384.size inb_S34x32x1152_S32x32x384_1_0_384, k0_pay16 x⟩,
   ⟨Rect.unit (s := S34x32x1152) ![1, 0, 0] S32x32x384.size inb_S34x32x1152_S32x32x384_1_0_0, k0_pay15 x⟩]

/-- The three column-shifted copies of a normalised image with 256 channels (the second layer's input), side by side. -/
def pieces2 (s0 s1 g be : Vec F S1x256 .f32) (y : Vec F S1x32x32x256 .bf16) : List (View.Piece (Elt F) S34x32x1152 .bf16) :=
  [⟨Rect.unit (s := S34x32x1152) ![1, 0, 512] S32x32x256.size inb_S34x32x1152_S32x32x256_1_0_512, k0_pay40 (k0_pay37 s0 s1 g be y)⟩,
   ⟨Rect.unit (s := S34x32x1152) ![1, 0, 256] S32x32x256.size inb_S34x32x1152_S32x32x256_1_0_256, k0_pay39 (k0_pay34 s0 s1 g be y)⟩,
   ⟨Rect.unit (s := S34x32x1152) ![1, 0, 0] S32x32x256.size inb_S34x32x1152_S32x32x256_1_0_0, k0_pay38 (k0_pay36 s0 s1 g be y)⟩]

/-- The same for the third layer's input. -/
def pieces3 (s0 s1 g be : Vec F S1x256 .f32) (y : Vec F S1x32x32x256 .bf16) : List (View.Piece (Elt F) S34x32x1152 .bf16) :=
  [⟨Rect.unit (s := S34x32x1152) ![1, 0, 512] S32x32x256.size inb_S34x32x1152_S32x32x256_1_0_512, k0_pay54 (k0_pay51 s0 s1 g be y)⟩,
   ⟨Rect.unit (s := S34x32x1152) ![1, 0, 256] S32x32x256.size inb_S34x32x1152_S32x32x256_1_0_256, k0_pay53 (k0_pay48 s0 s1 g be y)⟩,
   ⟨Rect.unit (s := S34x32x1152) ![1, 0, 0] S32x32x256.size inb_S34x32x1152_S32x32x256_1_0_0, k0_pay52 (k0_pay50 s0 s1 g be y)⟩]

/-! ## The half-block accumulators, read off a slab -/

/-- First layer, image rows 0 to 15: three products of 16 slab rows with one row of taps. -/
def acc1a (G : Vec F S34x32x1152 .bf16) (w : Vec F S3x1152x256 .bf16) : FVec F S512x256 .f32 :=
  k0_pay21
    (k0_pay18 (View.ld G (Rect.unit (s := S34x32x1152) ![0, 0, 0] S16x32x1152.size inb_S34x32x1152_S16x32x1152_0_0_0))
      (View.ld w (Rect.unit (s := S3x1152x256) ![0, 0, 0] S1x1152x256.size inb_S3x1152x256_S1x1152x256_0_0_0)))
    (k0_pay19 (View.ld G (Rect.unit (s := S34x32x1152) ![1, 0, 0] S16x32x1152.size inb_S34x32x1152_S16x32x1152_1_0_0)))
    (k0_pay20 (View.ld w (Rect.unit (s := S3x1152x256) ![1, 0, 0] S1x1152x256.size inb_S3x1152x256_S1x1152x256_1_0_0)))
    (constant S512x256 .f32 0x00000000#32)
    (View.ld G (Rect.unit (s := S34x32x1152) ![2, 0, 0] S16x32x1152.size inb_S34x32x1152_S16x32x1152_2_0_0))
    (View.ld w (Rect.unit (s := S3x1152x256) ![2, 0, 0] S1x1152x256.size inb_S3x1152x256_S1x1152x256_2_0_0))

/-- First layer, image rows 16 to 31. -/
def acc1b (G : Vec F S34x32x1152 .bf16) (w : Vec F S3x1152x256 .bf16) : FVec F S512x256 .f32 :=
  k0_pay22
    (View.ld G (Rect.unit (s := S34x32x1152) ![16, 0, 0] S16x32x1152.size inb_S34x32x1152_S16x32x1152_16_0_0))
    (View.ld w (Rect.unit (s := S3x1152x256) ![0, 0, 0] S1x1152x256.size inb_S3x1152x256_S1x1152x256_0_0_0))
    (View.ld G (Rect.unit (s := S34x32x1152) ![17, 0, 0] S16x32x1152.size inb_S34x32x1152_S16x32x1152_17_0_0))
    (View.ld w (Rect.unit (s := S3x1152x256) ![1, 0, 0] S1x1152x256.size inb_S3x1152x256_S1x1152x256_1_0_0))
    (View.ld G (Rect.unit (s := S34x32x1152) ![18, 0, 0] S16x32x1152.size inb_S34x32x1152_S16x32x1152_18_0_0))
    (View.ld w (Rect.unit (s := S3x1152x256) ![2, 0, 0] S1x1152x256.size inb_S3x1152x256_S1x1152x256_2_0_0))

/-- Second layer, image rows 0 to 15. -/
def acc2a (G : Vec F S34x32x1152 .bf16) (w : Vec F S3x768x256 .bf16) : FVec F S512x256 .f32 :=
  k0_pay41
    (View.ld G (Rect.unit (s := S34x32x1152) ![0, 0, 0] S16x32x768.size inb_S34x32x1152_S16x32x768_0_0_0))
    (View.ld w (Rect.unit (s := S3x768x256) ![0, 0, 0] S1x768x256.size inb_S3x768x256_S1x768x256_0_0_0))
    (View.ld G (Rect.unit (s := S34x32x1152) ![1, 0, 0] S16x32x768.size inb_S34x32x1152_S16x32x768_1_0_0))
    (View.ld w (Rect.unit (s := S3x768x256) ![1, 0, 0] S1x768x256.size inb_S3x768x256_S1x768x256_1_0_0))
    (View.ld G (Rect.unit (s := S34x32x1152) ![2, 0, 0] S16x32x768.size inb_S34x32x1152_S16x32x768_2_0_0))
    (View.ld w (Rect.unit (s := S3x768x256) ![2, 0, 0] S1x768x256.size inb_S3x768x256_S1x768x256_2_0_0))

/-- Second layer, image rows 16 to 31. -/
def acc2b (G : Vec F S34x32x1152 .bf16) (w : Vec F S3x768x256 .bf16) : FVec F S512x256 .f32 :=
  k0_pay43 k0_pay42
    (View.ld G (Rect.unit (s := S34x32x1152) ![16, 0, 0] S16x32x768.size inb_S34x32x1152_S16x32x768_16_0_0))
    (View.ld w (Rect.unit (s := S3x768x256) ![0, 0, 0] S1x768x256.size inb_S3x768x256_S1x768x256_0_0_0))
    (View.ld G (Rect.unit (s := S34x32x1152) ![17, 0, 0] S16x32x768.size inb_S34x32x1152_S16x32x768_17_0_0))
    (View.ld w (Rect.unit (s := S3x768x256) ![1, 0, 0] S1x768x256.size inb_S3x768x256_S1x768x256_1_0_0))
    (View.ld G (Rect.unit (s := S34x32x1152) ![18, 0, 0] S16x32x768.size inb_S34x32x1152_S16x32x768_18_0_0))
    (View.ld w (Rect.unit (s := S3x768x256) ![2, 0, 0] S1x768x256.size inb_S3x768x256_S1x768x256_2_0_0))

/-- Third layer, image rows 0 to 15. -/
def acc3a (G : Vec F S34x32x1152 .bf16) (w : Vec F S3x768x128 .bf16) : FVec F S512x128 .f32 :=
  k0_pay55
    (View.ld G (Rect.unit (s := S34x32x1152) ![0, 0, 0] S16x32x768.size inb_S34x32x1152_S16x32x768_0_0_0))
    (View.ld w (Rect.unit (s := S3x768x128) ![0, 0, 0] S1x768x128.size inb_S3x768x128_S1x768x128_0_0_0))
    (View.ld G (Rect.unit (s := S34x32x1152) ![1, 0, 0] S16x32x768.size inb_S34x32x1152_S16x32x768_1_0_0))
    (View.ld w (Rect.unit (s := S3x768x128) ![1, 0, 0] S1x768x128.size inb_S3x768x128_S1x768x128_1_0_0))
    (View.ld G (Rect.unit (s := S34x32x1152) ![2, 0, 0] S16x32x768.size inb_S34x32x1152_S16x32x768_2_0_0))
    (View.ld w (Rect.unit (s := S3x768x128) ![2, 0, 0] S1x768x128.size inb_S3x768x128_S1x768x128_2_0_0))

/-- Third layer, image rows 16 to 31 (the one column kept). -/
def acc3b (G : Vec F S34x32x1152 .bf16) (w : Vec F S3x768x128 .bf16) : FVec F S512x1 .f32 :=
  k0_pay58 k0_pay56
    (View.ld G (Rect.unit (s := S34x32x1152) ![16, 0, 0] S16x32x768.size inb_S34x32x1152_S16x32x768_16_0_0))
    (View.ld w (Rect.unit (s := S3x768x128) ![0, 0, 0] S1x768x128.size inb_S3x768x128_S1x768x128_0_0_0))
    (View.ld G (Rect.unit (s := S34x32x1152) ![17, 0, 0] S16x32x768.size inb_S34x32x1152_S16x32x768_17_0_0))
    (View.ld w (Rect.unit (s := S3x768x128) ![1, 0, 0] S1x768x128.size inb_S3x768x128_S1x768x128_1_0_0))
    (View.ld G (Rect.unit (s := S34x32x1152) ![18, 0, 0] S16x32x768.size inb_S34x32x1152_S16x32x768_18_0_0))
    (View.ld w (Rect.unit (s := S3x768x128) ![2, 0, 0] S1x768x128.size inb_S3x768x128_S1x768x128_2_0_0))

/-! ## The running sums: two rows, the sum of the values and the sum of their squares -/

/-- Row 0 and row 1 of a pair of running sums. -/
abbrev row0 (T : Vec F S2x256 .f32) : Vec F S1x256 .f32 :=
  View.ld T (Rect.unit (s := S2x256) ![0, 0] S1x256.size inb_S2x256_S1x256_0_0)
abbrev row1 (T : Vec F S2x256 .f32) : Vec F S1x256 .f32 :=
  View.ld T (Rect.unit (s := S2x256) ![1, 0] S1x256.size inb_S2x256_S1x256_1_0)

/-- Two rows stored: row 0 first, row 1 last. -/
abbrev rows (a b : FVec F S1x256 .f32) : List (View.Piece (Elt F) S2x256 .f32) :=
  [⟨Rect.unit (s := S2x256) ![1, 0] S1x256.size inb_S2x256_S1x256_1_0, b⟩,
   ⟨Rect.unit (s := S2x256) ![0, 0] S1x256.size inb_S2x256_S1x256_0_0, a⟩]

/-- First layer: the sums of a block, and the sums so far with a block added. -/
def init1 (G : Vec F S34x32x1152 .bf16) (w : Vec F S3x1152x256 .bf16) (b : Vec F S1x256 .f32) :=
  rows (k0_pay30 (acc1a G w) (acc1b G w) (k0_pay23 b) b) (k0_pay31 (acc1a G w) (acc1b G w) (k0_pay23 b) b)
def step1 (G : Vec F S34x32x1152 .bf16) (w : Vec F S3x1152x256 .bf16) (b : Vec F S1x256 .f32) (T : Vec F S2x256 .f32) :=
  rows (k0_pay32 (acc1a G w) (acc1b G w) (k0_pay23 b) b (row0 T)) (k0_pay33 (acc1a G w) (acc1b G w) (k0_pay23 b) b (row1 T))

/-- Second layer: the same. -/
def init2 (G : Vec F S34x32x1152 .bf16) (w : Vec F S3x768x256 .bf16) (b : Vec F S1x256 .f32) :=
  rows (k0_pay8 (acc2b G w) (k0_pay46 (acc2a G w) b) k0_pay47 b) (k0_pay9 (acc2b G w) (k0_pay44 (acc2a G w) b) b)
def step2 (G : Vec F S34x32x1152 .bf16) (w : Vec F S3x768x256 .bf16) (b : Vec F S1x256 .f32) (T : Vec F S2x256 .f32) :=
  rows (k0_pay10 (acc2b G w) (k0_pay46 (acc2a G w) b) k0_pay47 b (row0 T)) (k0_pay11 (acc2b G w) (k0_pay44 (acc2a G w) b) b (row1 T))

/-- The third layer's two halves of the result block. -/
def outs (G : Vec F S34x32x1152 .bf16) (w : Vec F S3x768x128 .bf16) (b : Vec F S1x1 .f32) : List (View.Piece (Elt F) S1x1024x1 .f32) :=
  [⟨Rect.unit (s := S1x1024x1) ![0, 512, 0] S1x512x1.size inb_S1x1024x1_S1x512x1_0_512_0, k0_pay12 (acc3b G w) (k0_pay59 b)⟩,
   ⟨Rect.unit (s := S1x1024x1) ![0, 0, 0] S1x512x1.size inb_S1x1024x1_S1x512x1_0_0_0, k0_pay57 (acc3a G w) b⟩]

/-! ## Loads of whole buffers, and the boxes the copies cover -/

theorem ld_whole2 (X : Vec F S1x256 .f32) (inb) : View.ld X (Rect.unit (s := S1x256) ![0, 0] ![1, 256] inb) = X :=
  View.ld_unit_zero (S := S1x256) (by decide) _ X
theorem ld_whole2' (X : Vec F S1x1 .f32) (inb) : View.ld X (Rect.unit (s := S1x1) ![0, 0] ![1, 1] inb) = X :=
  View.ld_unit_zero (S := S1x1) (by decide) _ X
theorem ld_whole4 (X : Vec F S1x32x32x384 .f32) (inb) :
    View.ld X (Rect.unit (s := S1x32x32x384) ![0, 0, 0, 0] ![1, 32, 32, 384] inb) = X :=
  View.ld_unit_zero (S := S1x32x32x384) (by decide) _ X

/-- The three copies of 384 channels cover rows 1 to 32. -/
theorem cover1 (x : Vec F S1x32x32x384 .f32) (y : S34x32x1152.Idx) (h1 : 1 ≤ (y 0).val) (h2 : (y 0).val < 33) :
    ∃ p ∈ pieces1 x, y ∈ p.1.set := by
  have b1 : (y 1).val < 32 := (y 1).isLt
  have b2 : (y 2).val < 1152 := (y 2).isLt
  unfold pieces1
  by_cases c1 : (y 2).val < 384
  · refine ⟨_, List.mem_cons_of_mem _ (List.mem_cons_of_mem _ List.mem_cons_self), ?_⟩
    rw [Rect.mem_set_unit]
    intro a; fin_cases a <;> simp [S32x32x384] <;> omega
  by_cases c2 : (y 2).val < 768
  · refine ⟨_, List.mem_cons_of_mem _ List.mem_cons_self, ?_⟩
    rw [Rect.mem_set_unit]
    intro a; fin_cases a <;> simp [S32x32x384] <;> omega
  · refine ⟨_, List.mem_cons_self, ?_⟩
    rw [Rect.mem_set_unit]
    intro a; fin_cases a <;> simp [S32x32x384] <;> omega

/-- Three copies of 256 channels at these places cover the first 768 columns of rows 1 to 32. -/
theorem cover256 (a b d : FVec F S32x32x256 .bf16) (y : S34x32x1152.Idx) (h1 : 1 ≤ (y 0).val) (h2 : (y 0).val < 33)
    (h3 : (y 2).val < 768) :
    ∃ p ∈ ([⟨Rect.unit (s := S34x32x1152) ![1, 0, 512] S32x32x256.size inb_S34x32x1152_S32x32x256_1_0_512, a⟩,
      ⟨Rect.unit (s := S34x32x1152) ![1, 0, 256] S32x32x256.size inb_S34x32x1152_S32x32x256_1_0_256, b⟩,
      ⟨Rect.unit (s := S34x32x1152) ![1, 0, 0] S32x32x256.size inb_S34x32x1152_S32x32x256_1_0_0, d⟩] :
        List (View.Piece (Elt F) S34x32x1152 .bf16)), y ∈ p.1.set := by
  have b1 : (y 1).val < 32 := (y 1).isLt
  by_cases c1 : (y 2).val < 256
  · refine ⟨_, List.mem_cons_of_mem _ (List.mem_cons_of_mem _ List.mem_cons_self), ?_⟩
    rw [Rect.mem_set_unit]
    intro a; fin_cases a <;> simp [S32x32x256] <;> omega
  by_cases c2 : (y 2).val < 512
  · refine ⟨_, List.mem_cons_of_mem _ List.mem_cons_self, ?_⟩
    rw [Rect.mem_set_unit]
    intro a; fin_cases a <;> simp [S32x32x256] <;> omega
  · refine ⟨_, List.mem_cons_self, ?_⟩
    rw [Rect.mem_set_unit]
    intro a; fin_cases a <;> simp [S32x32x256] <;> omega

/-- The zero rows cover rows 0 and 33. -/
theorem coverZ (y : S34x32x1152.Idx) (h : (y 0).val < 1 ∨ 33 ≤ (y 0).val) :
    ∃ p ∈ zeroRows (F := F), y ∈ p.1.set := by
  have b0 : (y 0).val < 34 := (y 0).isLt
  have b1 : (y 1).val < 32 := (y 1).isLt
  have b2 : (y 2).val < 1152 := (y 2).isLt
  unfold zeroRows
  rcases h with h | h
  · refine ⟨_, List.mem_cons_of_mem _ List.mem_cons_self, ?_⟩
    rw [Rect.mem_set_unit]
    intro a; fin_cases a <;> simp [S1x32x1152] <;> omega
  · refine ⟨_, List.mem_cons_self, ?_⟩
    rw [Rect.mem_set_unit]
    intro a; fin_cases a <;> simp [S1x32x1152] <;> omega

/-- So the copies of 384 channels and the zero rows cover the slab, -/
theorem cover1Z (x : Vec F S1x32x32x384 .f32) (y : S34x32x1152.Idx) : ∃ p ∈ pieces1 x ++ zeroRows, y ∈ p.1.set := by
  by_cases h : 1 ≤ (y 0).val ∧ (y 0).val < 33
  · obtain ⟨p, hp, hy⟩ := cover1 x y h.1 h.2
    exact ⟨p, List.mem_append_left _ hp, hy⟩
  · obtain ⟨p, hp, hy⟩ := coverZ (F := F) y (by omega)
    exact ⟨p, List.mem_append_right _ hp, hy⟩

/-- and the copies of 256 channels with them its first 768 columns. -/
theorem cover2Z (s0 s1 g be : Vec F S1x256 .f32) (x : Vec F S1x32x32x256 .bf16) (y : S34x32x1152.Idx) (h3 : (y 2).val < 768) :
    ∃ p ∈ pieces2 s0 s1 g be x ++ zeroRows, y ∈ p.1.set := by
  by_cases h : 1 ≤ (y 0).val ∧ (y 0).val < 33
  · obtain ⟨p, hp, hy⟩ := cover256 (F := F) _ _ _ y h.1 h.2 h3
    exact ⟨p, List.mem_append_left _ hp, hy⟩
  · obtain ⟨p, hp, hy⟩ := coverZ (F := F) y (by omega)
    exact ⟨p, List.mem_append_right _ hp, hy⟩
theorem cover3Z (s0 s1 g be : Vec F S1x256 .f32) (x : Vec F S1x32x32x256 .bf16) (y : S34x32x1152.Idx) (h3 : (y 2).val < 768) :
    ∃ p ∈ pieces3 s0 s1 g be x ++ zeroRows, y ∈ p.1.set := by
  by_cases h : 1 ≤ (y 0).val ∧ (y 0).val < 33
  · obtain ⟨p, hp, hy⟩ := cover256 (F := F) _ _ _ y h.1 h.2 h3
    exact ⟨p, List.mem_append_left _ hp, hy⟩
  · obtain ⟨p, hp, hy⟩ := coverZ (F := F) y (by omega)
    exact ⟨p, List.mem_append_right _ hp, hy⟩

/-- A box of `n` slab rows from row `a`: its index's row is between `a` and `a + n`, and its column is the box's. -/
theorem emb_box (a n k : ℕ) (inb) (j : (Rect.unit (s := S34x32x1152) ![a, 0, 0] ![n, 32, k] inb).shape.Idx) :
    (((Rect.unit (s := S34x32x1152) ![a, 0, 0] ![n, 32, k] inb).emb j) 0).val = a + (j 0).val
      ∧ (((Rect.unit (s := S34x32x1152) ![a, 0, 0] ![n, 32, k] inb).emb j) 2).val = (j 2).val
      ∧ (j 0).val < n ∧ (j 2).val < k := by
  refine ⟨?_, ?_, (j 0).isLt, (j 2).isLt⟩
  · refine (Rect.emb_apply _ j _).trans ?_; simp [Rect.unit]
  · refine (Rect.emb_apply _ j _).trans ?_; simp [Rect.unit]

end Cert.KernelIdeal.Spec

end
-- ==== Proof.State.lean ====
/-
  The contents of the scratch buffers along the grid: the blocks of the two intermediate arrays, the running sums, and the
  slab, as functions of the kernel's operands; and the lemmas that say a grid point's stores advance them.
-/
module

public import proofs.«01_k».proof.Proof.Spec
public import Idealize.ShloMosaic.Lib.Pointwise

@[expose] public section

noncomputable section

namespace Cert.KernelIdeal.Spec

open Cert.KernelIdeal Cert.KernelIdeal.Gen
open Idealize.ShloMosaic

variable {F : FTy → Type} [FloatOps F]

/-! ## The grid's words -/

theorem cond2_iff : ∀ t : Fin 48, k0_cond2 (grid0.coords t) = 1#1 ↔ t.val < 16 := by decide
theorem cond5_iff : ∀ t : Fin 48, k0_cond5 (grid0.coords t) = 1#1 ↔ (16 ≤ t.val ∧ t.val < 32) := by decide
theorem cond8_iff : ∀ t : Fin 48, k0_cond8 (grid0.coords t) = 1#1 ↔ 32 ≤ t.val := by decide
theorem off1_eq : ∀ t : Fin 48, k0_off1 (grid0.coords t) = ![t.val, 0, 0, 0] := by decide
theorem off2_eq : ∀ t : Fin 48, k0_off2 (grid0.coords t) = ![t.val, 16, 0, 0] := by decide
theorem off3_eq : ∀ t : Fin 48, 16 ≤ t.val → k0_off3 (grid0.coords t) = ![t.val - 16, 0, 0, 0] := by decide
theorem off4_eq : ∀ t : Fin 48, 16 ≤ t.val → k0_off4 (grid0.coords t) = ![t.val - 16, 0, 0, 0] := by decide
theorem off5_eq : ∀ t : Fin 48, 16 ≤ t.val → k0_off5 (grid0.coords t) = ![t.val - 16, 16, 0, 0] := by decide
theorem off6_eq : ∀ t : Fin 48, 32 ≤ t.val → k0_off6 (grid0.coords t) = ![t.val - 32, 0, 0, 0] := by decide
theorem eq0_iff : ∀ t : Fin 48, (Scalar.cmpi .ne (Scalar.extui (Scalar.cmpi .eq (BitVec.ofNat 32 (grid0.coords t 0).val) 0#32) : BitVec 32) 0#32 = 1#1)
    ↔ t.val = 0 := by decide
theorem ne0_iff : ∀ t : Fin 48, (Scalar.cmpi .ne (Scalar.extui (Scalar.xori (Scalar.cmpi .eq (BitVec.ofNat 32 (grid0.coords t 0).val) 0#32) 1#1) : BitVec 32) 0#32 = 1#1)
    ↔ t.val ≠ 0 := by decide
theorem eq16_iff : ∀ t : Fin 48, (Scalar.cmpi .ne (Scalar.extui (Scalar.cmpi .eq (BitVec.ofNat 32 (grid0.coords t 0).val) 16#32) : BitVec 32) 0#32 = 1#1)
    ↔ t.val = 16 := by decide
theorem ne16_iff : ∀ t : Fin 48, (Scalar.cmpi .ne (Scalar.extui (Scalar.xori (Scalar.cmpi .eq (BitVec.ofNat 32 (grid0.coords t 0).val) 16#32) 1#1) : BitVec 32) 0#32 = 1#1)
    ↔ t.val ≠ 16 := by decide

/-! ## Blocks of an array of 16 images -/

/-- Image `b` of an array of 16. -/
def blk (Y : Vec F S16x32x32x256 .bf16) (b : Fin 16) : Vec F S1x32x32x256 .bf16 :=
  fun j => Y (ix4 b (j 1) (j 2) (j 3))

/-- An image from its rows 0 to 15 and its rows 16 to 31. -/
def halves (q p : Vec F S1x16x32x256 .bf16) : Vec F S1x32x32x256 .bf16 :=
  fun j => if h : (j 1).val < 16 then q (ix4 0 ⟨(j 1).val, h⟩ (j 2) (j 3))
    else p (ix4 0 ⟨(j 1).val - 16, by have : (j 1).val < 32 := (j 1).isLt; omega⟩ (j 2) (j 3))

theorem ld_blk (Y : Vec F S16x32x32x256 .bf16) (off : Fin 4 → ℕ) (inb) (b : Fin 16) (h : off = ![b.val, 0, 0, 0]) :
    View.ld Y (Rect.unit (s := S16x32x32x256) off S1x32x32x256.size inb) = blk Y b := by
  subst h
  funext j
  have h0 : (j 0).val = 0 := by have : (j 0).val < 1 := (j 0).isLt; omega
  refine congrArg Y (funext fun a => Fin.ext ?_)
  refine (Rect.emb_apply _ j a).trans ?_
  fin_cases a <;> simp [Rect.unit, ix4] <;> omega

/-- Storing the two halves of image `b` makes image `b` of the array those halves, -/
theorem blk_over_same (Y : Vec F S16x32x32x256 .bf16) (o1 o2 : Fin 4 → ℕ) (i1 i2) (q p : Vec F S1x16x32x256 .bf16) (b : Fin 16)
    (h1 : o1 = ![b.val, 0, 0, 0]) (h2 : o2 = ![b.val, 16, 0, 0]) :
    blk (over (Val := Elt F) Y [⟨Rect.unit (s := S16x32x32x256) o2 S1x16x32x256.size i2, p⟩, ⟨Rect.unit (s := S16x32x32x256) o1 S1x16x32x256.size i1, q⟩]) b
      = halves q p := by
  subst h1 h2
  funext j
  have b1 : (j 1).val < 32 := (j 1).isLt
  unfold blk halves
  by_cases h : (j 1).val < 16
  · rw [dif_pos h, over_cons_of_not_mem]
    · have e : (Rect.unit (s := S16x32x32x256) ![b.val, 0, 0, 0] S1x16x32x256.size i1).emb (ix4 0 ⟨(j 1).val, h⟩ (j 2) (j 3) : S1x16x32x256.Idx)
          = (ix4 b (j 1) (j 2) (j 3) : S16x32x32x256.Idx) := by
        refine funext fun a => Fin.ext ?_
        refine (Rect.emb_apply _ _ a).trans ?_
        fin_cases a <;> simp [Rect.unit, ix4]
      rw [← e]
      exact over_cons_emb _ _ _ _ _
    · exact Rect.not_mem_set_of_axis _ _ 1 16 16 rfl rfl rfl (Or.inl h)
  · rw [dif_neg h]
    have e : (Rect.unit (s := S16x32x32x256) ![b.val, 16, 0, 0] S1x16x32x256.size i2).emb (ix4 0 ⟨(j 1).val - 16, by omega⟩ (j 2) (j 3) : S1x16x32x256.Idx)
        = (ix4 b (j 1) (j 2) (j 3) : S16x32x32x256.Idx) := by
      refine funext fun a => Fin.ext ?_
      refine (Rect.emb_apply _ _ a).trans ?_
      fin_cases a <;> simp [Rect.unit, ix4]
      omega
    rw [← e]
    exact over_cons_emb _ _ _ _ _

/-- and leaves every other image. -/
theorem blk_over_ne (Y : Vec F S16x32x32x256 .bf16) (o1 o2 : Fin 4 → ℕ) (i1 i2) (q p : Vec F S1x16x32x256 .bf16) (b b' : Fin 16)
    (h1 : o1 = ![b.val, 0, 0, 0]) (h2 : o2 = ![b.val, 16, 0, 0]) (hb : b'.val ≠ b.val) :
    blk (over (Val := Elt F) Y [⟨Rect.unit (s := S16x32x32x256) o2 S1x16x32x256.size i2, p⟩, ⟨Rect.unit (s := S16x32x32x256) o1 S1x16x32x256.size i1, q⟩]) b'
      = blk Y b' := by
  subst h1 h2
  funext j
  unfold blk
  rw [over_cons_of_not_mem, over_cons_of_not_mem]
  · rfl
  · exact Rect.not_mem_set_of_axis _ _ 0 b.val 1 rfl rfl rfl (by show b'.val < b.val ∨ b.val + 1 ≤ b'.val; omega)
  · exact Rect.not_mem_set_of_axis _ _ 0 b.val 1 rfl rfl rfl (by show b'.val < b.val ∨ b.val + 1 ≤ b'.val; omega)

/-! ## The slab with its zero rows -/

/-- Contents of the slab before anything is stored: only a default. -/
def z17 : Vec F S34x32x1152 .bf16 := constant S34x32x1152 .bf16 0x0000#16

/-- Rows 0 and 33 of a slab are zero. -/
def Zok (Z : Vec F S34x32x1152 .bf16) : Prop :=
  ∀ y : S34x32x1152.Idx, ((y 0).val < 1 ∨ 33 ≤ (y 0).val) → Z y = over (Val := Elt F) z17 zeroRows y

/-- Stores within rows 1 to 32 of the slab. -/
def Inner (L : List (View.Piece (Elt F) S34x32x1152 .bf16)) : Prop :=
  ∀ p ∈ L, ∀ y : S34x32x1152.Idx, ((y 0).val < 1 ∨ 33 ≤ (y 0).val) → y ∉ p.1.set

/-- Pieces that keep off the border rows leave them as they are. -/
theorem over_inner (X : Vec F S34x32x1152 .bf16) : ∀ L : List (View.Piece (Elt F) S34x32x1152 .bf16), Inner L →
    ∀ y : S34x32x1152.Idx, ((y 0).val < 1 ∨ 33 ≤ (y 0).val) → over (Val := Elt F) X L y = X y
  | [], _, _, _ => rfl
  | p :: L, h, y, hy => by
    rw [over_cons_of_not_mem _ _ _ (h p List.mem_cons_self y hy)]
    exact over_inner X L (fun q hq => h q (List.mem_cons_of_mem _ hq)) y hy

theorem inner1 (x : Vec F S1x32x32x384 .f32) : Inner (pieces1 x) := by
  intro p hp y hy
  unfold pieces1 at hp
  simp only [List.mem_cons, List.not_mem_nil, or_false] at hp
  rcases hp with rfl | rfl | rfl <;> exact Rect.not_mem_set_of_axis _ _ 0 1 32 rfl rfl rfl hy
theorem inner2 (s0 s1 g be : Vec F S1x256 .f32) (x : Vec F S1x32x32x256 .bf16) : Inner (pieces2 s0 s1 g be x) := by
  intro p hp y hy
  unfold pieces2 at hp
  simp only [List.mem_cons, List.not_mem_nil, or_false] at hp
  rcases hp with rfl | rfl | rfl <;> exact Rect.not_mem_set_of_axis _ _ 0 1 32 rfl rfl rfl hy
theorem inner3 (s0 s1 g be : Vec F S1x256 .f32) (x : Vec F S1x32x32x256 .bf16) : Inner (pieces3 s0 s1 g be x) := by
  intro p hp y hy
  unfold pieces3 at hp
  simp only [List.mem_cons, List.not_mem_nil, or_false] at hp
  rcases hp with rfl | rfl | rfl <;> exact Rect.not_mem_set_of_axis _ _ 0 1 32 rfl rfl rfl hy

/-- Such pieces keep the border rows zero. -/
theorem zok_over (X : Vec F S34x32x1152 .bf16) (L) (hL : Inner L) (h : Zok X) : Zok (over (Val := Elt F) X L) :=
  fun y hy => (over_inner X L hL y hy).trans (h y hy)

/-- With the border rows written zero first, they are zero after such pieces. -/
theorem zok_over_append (X : Vec F S34x32x1152 .bf16) (L) (hL : Inner L) : Zok (over (Val := Elt F) X (L ++ zeroRows)) := by
  rw [over_append]
  exact zok_over _ L hL fun y hy => over_congr _ _ y _ (coverZ y hy)

/-- Copies stored into a slab with zero rows, at an index they or the zero rows cover: the slab built from nothing. -/
theorem over_zok (X : Vec F S34x32x1152 .bf16) (L) (hL : Inner L) (h : Zok X) (y : S34x32x1152.Idx)
    (hc : ∃ p ∈ L ++ zeroRows, y ∈ p.1.set) : over (Val := Elt F) X L y = over (Val := Elt F) z17 (L ++ zeroRows) y := by
  rw [over_append]
  by_cases hy : (y 0).val < 1 ∨ 33 ≤ (y 0).val
  · rw [over_inner _ L hL y hy, over_inner _ L hL y hy, h y hy]
  · obtain ⟨p, hp, hm⟩ := hc
    refine over_congr _ _ y L ⟨p, (List.mem_append.1 hp).resolve_right fun hz => ?_, hm⟩
    unfold zeroRows at hz
    simp only [List.mem_cons, List.not_mem_nil, or_false] at hz
    rcases hz with rfl | rfl
    · exact Rect.not_mem_set_of_axis _ _ 0 33 1 rfl rfl rfl (by omega) hm
    · exact Rect.not_mem_set_of_axis _ _ 0 0 1 rfl rfl rfl (by omega) hm

/-- A load of 768 columns only sees those columns. -/
theorem ld_congr768 (G G' : Vec F S34x32x1152 .bf16) (h : ∀ y : S34x32x1152.Idx, (y 2).val < 768 → G y = G' y) (a n : ℕ) (inb) :
    View.ld G (Rect.unit (s := S34x32x1152) ![a, 0, 0] ![n, 32, 768] inb) = View.ld G' (Rect.unit (s := S34x32x1152) ![a, 0, 0] ![n, 32, 768] inb) := by
  funext j
  have hj := emb_box a n 768 inb j
  exact h _ (lt_of_eq_of_lt hj.2.1 hj.2.2.2)

theorem acc2a_congr (G G' : Vec F S34x32x1152 .bf16) (w) (h : ∀ y : S34x32x1152.Idx, (y 2).val < 768 → G y = G' y) : acc2a G w = acc2a G' w := by
  unfold acc2a
  rw [ld_congr768 G G' h 0 16, ld_congr768 G G' h 1 16, ld_congr768 G G' h 2 16]
theorem acc2b_congr (G G' : Vec F S34x32x1152 .bf16) (w) (h : ∀ y : S34x32x1152.Idx, (y 2).val < 768 → G y = G' y) : acc2b G w = acc2b G' w := by
  unfold acc2b
  rw [ld_congr768 G G' h 16 16, ld_congr768 G G' h 17 16, ld_congr768 G G' h 18 16]
theorem acc3a_congr (G G' : Vec F S34x32x1152 .bf16) (w) (h : ∀ y : S34x32x1152.Idx, (y 2).val < 768 → G y = G' y) : acc3a G w = acc3a G' w := by
  unfold acc3a
  rw [ld_congr768 G G' h 0 16, ld_congr768 G G' h 1 16, ld_congr768 G G' h 2 16]
theorem acc3b_congr (G G' : Vec F S34x32x1152 .bf16) (w) (h : ∀ y : S34x32x1152.Idx, (y 2).val < 768 → G y = G' y) : acc3b G w = acc3b G' w := by
  unfold acc3b
  rw [ld_congr768 G G' h 16 16, ld_congr768 G G' h 17 16, ld_congr768 G G' h 18 16]

/-! ## The running sums' rows -/

theorem cover_rows (a b : FVec F S1x256 .f32) (y : S2x256.Idx) : ∃ p ∈ rows a b, y ∈ p.1.set := by
  have b0 : (y 0).val < 2 := (y 0).isLt
  have b1 : (y 1).val < 256 := (y 1).isLt
  by_cases h : (y 0).val < 1
  · refine ⟨_, List.mem_cons_of_mem _ List.mem_cons_self, ?_⟩
    rw [Rect.mem_set_unit]
    intro a; fin_cases a <;> simp [S1x256] <;> omega
  · refine ⟨_, List.mem_cons_self, ?_⟩
    rw [Rect.mem_set_unit]
    intro a; fin_cases a <;> simp [S1x256] <;> omega

theorem over_rows (X X' : Vec F S2x256 .f32) (a b : FVec F S1x256 .f32) : over (Val := Elt F) X (rows a b) = over (Val := Elt F) X' (rows a b) :=
  funext fun y => over_congr _ _ y _ (cover_rows a b y)

theorem cover_outs (G : Vec F S34x32x1152 .bf16) (w : Vec F S3x768x128 .bf16) (b : Vec F S1x1 .f32) (y : S1x1024x1.Idx) :
    ∃ p ∈ outs G w b, y ∈ p.1.set := by
  have b0 : (y 0).val < 1 := (y 0).isLt
  have b1 : (y 1).val < 1024 := (y 1).isLt
  have b2 : (y 2).val < 1 := (y 2).isLt
  unfold outs
  by_cases h : (y 1).val < 512
  · refine ⟨_, List.mem_cons_of_mem _ List.mem_cons_self, ?_⟩
    rw [Rect.mem_set_unit]
    intro a; fin_cases a <;> simp [S1x512x1] <;> omega
  · refine ⟨_, List.mem_cons_self, ?_⟩
    rw [Rect.mem_set_unit]
    intro a; fin_cases a <;> simp [S1x512x1] <;> omega

/-! ## The contents along the grid -/

/-- The kernel's operands: the images one by one, and the rest as the kernel's windows show them. -/
structure Inp (F : FTy → Type) [FloatOps F] where
  x : ℕ → Vec F S1x32x32x384 .f32
  w1 : Vec F S3x1152x256 .bf16
  w2 : Vec F S3x768x256 .bf16
  w3 : Vec F S3x768x128 .bf16
  b1 : Vec F S1x256 .f32
  g1 : Vec F S1x256 .f32
  be1 : Vec F S1x256 .f32
  b2 : Vec F S1x256 .f32
  g2 : Vec F S1x256 .f32
  be2 : Vec F S1x256 .f32
  b3 : Vec F S1x1 .f32

variable (I : Inp F)

/-- First layer: image `n`'s slab, its output, and the sums over images 0 to `n`. -/
def slab1 (n : ℕ) : Vec F S34x32x1152 .bf16 := over (Val := Elt F) z17 (pieces1 (I.x n) ++ zeroRows)
/-- The first intermediate array at image `n`. -/
def y1 (n : ℕ) : Vec F S1x32x32x256 .bf16 :=
  halves (k0_pay25 (acc1a (slab1 I n) I.w1) (k0_pay23 I.b1)) (k0_pay27 (acc1b (slab1 I n) I.w1) I.b1)
/-- The sums of the first layer after image `n`. -/
def t1 : ℕ → Vec F S2x256 .f32
  | 0 => over (Val := Elt F) (constant S2x256 .f32 0x00000000#32) (init1 (slab1 I 0) I.w1 I.b1)
  | n + 1 => over (Val := Elt F) (t1 n) (step1 (slab1 I (n + 1)) I.w1 I.b1 (t1 n))

/-- Second layer: the same, its images normalised by the first layer's sums. -/
def slab2 (n : ℕ) : Vec F S34x32x1152 .bf16 :=
  over (Val := Elt F) z17 (pieces2 (row0 (t1 I 15)) (row1 (t1 I 15)) I.g1 I.be1 (y1 I n) ++ zeroRows)
/-- The second intermediate array at image `n`. -/
def y2 (n : ℕ) : Vec F S1x32x32x256 .bf16 :=
  halves (k0_pay45 (acc2a (slab2 I n) I.w2) I.b2) (k0_pay5 (acc2b (slab2 I n) I.w2) I.b2)
/-- The sums of the second layer after image `n`. -/
def t2 : ℕ → Vec F S2x256 .f32
  | 0 => over (Val := Elt F) (constant S2x256 .f32 0x00000000#32) (init2 (slab2 I 0) I.w2 I.b2)
  | n + 1 => over (Val := Elt F) (t2 n) (step2 (slab2 I (n + 1)) I.w2 I.b2 (t2 n))

/-- Third layer: its slab and its block of the result. -/
def slab3 (n : ℕ) : Vec F S34x32x1152 .bf16 :=
  over (Val := Elt F) z17 (pieces3 (row0 (t2 I 15)) (row1 (t2 I 15)) I.g2 I.be2 (y2 I n) ++ zeroRows)
/-- The output block of image `n`. -/
def out (n : ℕ) : Vec F S1x1024x1 .f32 :=
  over (Val := Elt F) (constant S1x1024x1 .f32 0x00000000#32) (outs (slab3 I n) I.w3 I.b3)

/-- What the scratch buffers hold before grid point `t`. -/
structure Inv (t : ℕ) (Y1 Y2 : Vec F S16x32x32x256 .bf16) (T1 T2 : Vec F S2x256 .f32) (Z : Vec F S34x32x1152 .bf16) : Prop where
  z : 1 ≤ t → Zok Z
  y1 : ∀ b : Fin 16, b.val < t → blk Y1 b = Spec.y1 I b.val
  t1 : ∀ n : ℕ, n < 16 → n + 1 ≤ t → (n = 15 ∨ t = n + 1) → T1 = Spec.t1 I n
  y2 : ∀ b : Fin 16, b.val + 16 < t → blk Y2 b = Spec.y2 I b.val
  t2 : ∀ n : ℕ, n < 16 → n + 17 ≤ t → (n = 15 ∨ t = n + 17) → T2 = Spec.t2 I n

end Cert.KernelIdeal.Spec

end
-- ==== Proof.Steps.lean ====
/-
  A grid point's stores advance the scratch buffers' contents: the first layer's points, the second's, the third's.
-/
module

public import proofs.«01_k».proof.Proof.State

@[expose] public section

noncomputable section

namespace Cert.KernelIdeal.Spec

open Cert.KernelIdeal Cert.KernelIdeal.Gen
open Idealize.ShloMosaic

variable {F : FTy → Type} [FloatOps F]
variable (I : Inp F) {Y1 Y2 : Vec F S16x32x32x256 .bf16} {T1 T2 : Vec F S2x256 .f32} {Z : Vec F S34x32x1152 .bf16}

/-- The slab of a first-layer point at its first grid point: the zero rows are stored there. -/
theorem slab1_first (Z : Vec F S34x32x1152 .bf16) (n : ℕ) : over (Val := Elt F) Z (pieces1 (I.x n) ++ zeroRows) = slab1 I n :=
  funext fun y => over_congr _ _ y _ (cover1Z _ y)

/-- Writing the image into the slab gives the slab of the first layer. -/
theorem slab1_next (h : Zok Z) (n : ℕ) : over (Val := Elt F) Z (pieces1 (I.x n)) = slab1 I n :=
  funext fun y => over_zok Z _ (inner1 _) h y (cover1Z _ y)

/-- Writing the normalised image into the slab gives the slab of the second layer, in the columns that it reads. -/
theorem slab2_next (h : Zok Z) (n : ℕ) (y : S34x32x1152.Idx) (hy : (y 2).val < 768) :
    over (Val := Elt F) Z (pieces2 (row0 (Spec.t1 I 15)) (row1 (Spec.t1 I 15)) I.g1 I.be1 (Spec.y1 I n)) y = slab2 I n y :=
  over_zok Z _ (inner2 _ _ _ _ _) h y (cover2Z _ _ _ _ _ y hy)

/-- The same for the third layer. -/
theorem slab3_next (h : Zok Z) (n : ℕ) (y : S34x32x1152.Idx) (hy : (y 2).val < 768) :
    over (Val := Elt F) Z (pieces3 (row0 (Spec.t2 I 15)) (row1 (Spec.t2 I 15)) I.g2 I.be2 (Spec.y2 I n)) y = slab3 I n y :=
  over_zok Z _ (inner3 _ _ _ _ _) h y (cover3Z _ _ _ _ _ y hy)

variable (o1 o2 : Fin 4 → ℕ) (i1 : ∀ a, o1 a + S1x16x32x256.size a ≤ S16x32x32x256.size a) (i2 : ∀ a, o2 a + S1x16x32x256.size a ≤ S16x32x32x256.size a)

/-- The first grid point. -/
theorem step_first (t : ℕ) (ht : t = 0) (h1 : o1 = ![t, 0, 0, 0]) (h2 : o2 = ![t, 16, 0, 0]) (G : Vec F S34x32x1152 .bf16)
    (hG : G = over (Val := Elt F) Z (pieces1 (I.x t) ++ zeroRows)) :
    Inv I (t + 1)
      (over (Val := Elt F) Y1 [⟨Rect.unit (s := S16x32x32x256) o2 S1x16x32x256.size i2, k0_pay27 (acc1b G I.w1) I.b1⟩,
        ⟨Rect.unit (s := S16x32x32x256) o1 S1x16x32x256.size i1, k0_pay25 (acc1a G I.w1) (k0_pay23 I.b1)⟩])
      Y2 (over (Val := Elt F) T1 (init1 G I.w1 I.b1)) T2 G where
  z _ := hG ▸ zok_over_append Z _ (inner1 _)
  y1 b hb := by
    rw [blk_over_same Y1 o1 o2 i1 i2 _ _ b (by rw [h1, show b.val = t by omega]) (by rw [h2, show b.val = t by omega]), hG, slab1_first,
      show b.val = t by omega]
    rfl
  t1 n hn hle h := by
    have : n = 0 := by omega
    subst this ht
    rw [hG, slab1_first]
    exact over_rows _ _ _ _
  y2 b hb := by omega
  t2 n hn hle h := by omega

/-- A later grid point of the first layer. -/
theorem step_conv1 (t : ℕ) (ht0 : 0 < t) (ht : t < 16) (hI : Inv I t Y1 Y2 T1 T2 Z) (h1 : o1 = ![t, 0, 0, 0]) (h2 : o2 = ![t, 16, 0, 0])
    (G : Vec F S34x32x1152 .bf16) (hG : G = over (Val := Elt F) Z (pieces1 (I.x t))) :
    Inv I (t + 1)
      (over (Val := Elt F) Y1 [⟨Rect.unit (s := S16x32x32x256) o2 S1x16x32x256.size i2, k0_pay27 (acc1b G I.w1) I.b1⟩,
        ⟨Rect.unit (s := S16x32x32x256) o1 S1x16x32x256.size i1, k0_pay25 (acc1a G I.w1) (k0_pay23 I.b1)⟩])
      Y2 (over (Val := Elt F) T1 (step1 G I.w1 I.b1 T1)) T2 G where
  z _ := hG ▸ zok_over Z _ (inner1 _) (hI.z ht0)
  y1 b hb := by
    rcases Nat.lt_succ_iff_lt_or_eq.1 hb with hb | hb
    · rw [blk_over_ne Y1 o1 o2 i1 i2 _ _ ⟨t, ht⟩ b h1 h2 (by simp; omega)]
      exact hI.y1 b hb
    · rw [blk_over_same Y1 o1 o2 i1 i2 _ _ b (by rw [h1, hb]) (by rw [h2, hb]), hG, slab1_next I (hI.z ht0), hb]
      rfl
  t1 n hn hle h := by
    have : n = (t - 1) + 1 := by omega
    subst this
    have e : t - 1 + 1 = t := by omega
    rw [hG, slab1_next I (hI.z ht0), hI.t1 (t - 1) (by omega) (by omega) (by omega)]
    show _ = over (Val := Elt F) (Spec.t1 I (t - 1)) (step1 (slab1 I (t - 1 + 1)) I.w1 I.b1 (Spec.t1 I (t - 1)))
    rw [e]
  y2 b hb := by omega
  t2 n hn hle h := by omega

variable (y : Vec F S1x32x32x256 .bf16)

/-- The second layer's first grid point. -/
theorem step_conv2_first (t : ℕ) (ht : t = 16) (hI : Inv I t Y1 Y2 T1 T2 Z) (h1 : o1 = ![t - 16, 0, 0, 0]) (h2 : o2 = ![t - 16, 16, 0, 0])
    (hy : y = blk Y1 ⟨t - 16, by omega⟩)
    (G : Vec F S34x32x1152 .bf16) (hG : G = over (Val := Elt F) Z (pieces2 (row0 T1) (row1 T1) I.g1 I.be1 y)) :
    Inv I (t + 1) Y1
      (over (Val := Elt F) Y2 [⟨Rect.unit (s := S16x32x32x256) o2 S1x16x32x256.size i2, k0_pay5 (acc2b G I.w2) I.b2⟩,
        ⟨Rect.unit (s := S16x32x32x256) o1 S1x16x32x256.size i1, k0_pay45 (acc2a G I.w2) I.b2⟩])
      T1 (over (Val := Elt F) T2 (init2 G I.w2 I.b2)) G := by
  subst ht
  have hz := hI.z (by omega)
  have hg : ∀ j : S34x32x1152.Idx, (j 2).val < 768 → G j = slab2 I 0 j := by
    rw [hG, hy, hI.y1 ⟨16 - 16, by omega⟩ (by simp), hI.t1 15 (by omega) (by omega) (by omega)]
    exact slab2_next I hz 0
  constructor
  · intro _; exact hG ▸ zok_over Z _ (inner2 _ _ _ _ _) hz
  · intro b _; exact hI.y1 b b.isLt
  · intro n hn hle h; exact hI.t1 n hn (by omega) (by omega)
  · intro b hb
    have : b.val = 0 := by omega
    rw [blk_over_same Y2 o1 o2 i1 i2 _ _ b (by rw [h1, this]) (by rw [h2, this]), acc2a_congr _ _ _ hg, acc2b_congr _ _ _ hg, this]
    rfl
  · intro n hn hle h
    have : n = 0 := by omega
    subst this
    unfold init2
    rw [acc2a_congr _ _ _ hg, acc2b_congr _ _ _ hg]
    exact over_rows _ _ _ _

/-- A later grid point of the second layer. -/
theorem step_conv2 (t : ℕ) (ht0 : 16 < t) (ht : t < 32) (hI : Inv I t Y1 Y2 T1 T2 Z) (h1 : o1 = ![t - 16, 0, 0, 0]) (h2 : o2 = ![t - 16, 16, 0, 0])
    (hy : y = blk Y1 ⟨t - 16, by omega⟩)
    (G : Vec F S34x32x1152 .bf16) (hG : G = over (Val := Elt F) Z (pieces2 (row0 T1) (row1 T1) I.g1 I.be1 y)) :
    Inv I (t + 1) Y1
      (over (Val := Elt F) Y2 [⟨Rect.unit (s := S16x32x32x256) o2 S1x16x32x256.size i2, k0_pay5 (acc2b G I.w2) I.b2⟩,
        ⟨Rect.unit (s := S16x32x32x256) o1 S1x16x32x256.size i1, k0_pay45 (acc2a G I.w2) I.b2⟩])
      T1 (over (Val := Elt F) T2 (step2 G I.w2 I.b2 T2)) G := by
  have hz := hI.z (by omega)
  have hg : ∀ j : S34x32x1152.Idx, (j 2).val < 768 → G j = slab2 I (t - 16) j := by
    rw [hG, hy, hI.y1 ⟨t - 16, by omega⟩ (by simp; omega), hI.t1 15 (by omega) (by omega) (by omega)]
    exact slab2_next I hz (t - 16)
  constructor
  · intro _; exact hG ▸ zok_over Z _ (inner2 _ _ _ _ _) hz
  · intro b _; exact hI.y1 b (by have := b.isLt; omega)
  · intro n hn hle h; exact hI.t1 n hn (by omega) (by omega)
  · intro b hb
    by_cases hbt : b.val = t - 16
    · rw [blk_over_same Y2 o1 o2 i1 i2 _ _ b (by rw [h1, hbt]) (by rw [h2, hbt]), acc2a_congr _ _ _ hg, acc2b_congr _ _ _ hg, hbt]
      rfl
    · rw [blk_over_ne Y2 o1 o2 i1 i2 _ _ ⟨t - 16, by omega⟩ b h1 h2 hbt]
      exact hI.y2 b (by omega)
  · intro n hn hle h
    have hn' : n = (t - 17) + 1 := by omega
    subst hn'
    have e : t - 17 + 1 = t - 16 := by omega
    rw [hI.t2 (t - 17) (by omega) (by omega) (by omega)]
    show _ = over (Val := Elt F) (Spec.t2 I (t - 17)) (step2 (slab2 I (t - 17 + 1)) I.w2 I.b2 (Spec.t2 I (t - 17)))
    unfold step2
    rw [acc2a_congr _ _ _ hg, acc2b_congr _ _ _ hg, e]

/-- The third layer's grid points leave all but the slab, -/
theorem step_conv3 (t : ℕ) (ht0 : 32 ≤ t) (ht : t < 48) (hI : Inv I t Y1 Y2 T1 T2 Z)
    (G : Vec F S34x32x1152 .bf16) (hG : G = over (Val := Elt F) Z (pieces3 (row0 T2) (row1 T2) I.g2 I.be2 y)) :
    Inv I (t + 1) Y1 Y2 T1 T2 G where
  z _ := hG ▸ zok_over Z _ (inner3 _ _ _ _ _) (hI.z (by omega))
  y1 b _ := hI.y1 b (by have := b.isLt; omega)
  t1 n hn hle h := hI.t1 n hn (by omega) (by omega)
  y2 b _ := hI.y2 b (by have := b.isLt; omega)
  t2 n hn hle h := hI.t2 n hn (by omega) (by omega)

/-- and store the result's block. -/
theorem out_conv3 (t : ℕ) (ht0 : 32 ≤ t) (ht : t < 48) (hI : Inv I t Y1 Y2 T1 T2 Z) (hy : y = blk Y2 ⟨t - 32, by omega⟩)
    (G : Vec F S34x32x1152 .bf16) (hG : G = over (Val := Elt F) Z (pieces3 (row0 T2) (row1 T2) I.g2 I.be2 y)) (D : Vec F S1x1024x1 .f32) :
    over (Val := Elt F) D (outs G I.w3 I.b3) = out I (t - 32) := by
  have hz := hI.z (by omega)
  have hg : ∀ j : S34x32x1152.Idx, (j 2).val < 768 → G j = slab3 I (t - 32) j := by
    rw [hG, hy, hI.y2 ⟨t - 32, by omega⟩ (by simp; omega), hI.t2 15 (by omega) (by omega) (by omega)]
    exact slab3_next I hz (t - 32)
  have e : outs G I.w3 I.b3 = outs (slab3 I (t - 32)) I.w3 I.b3 := by
    unfold outs
    rw [acc3a_congr _ _ _ hg, acc3b_congr _ _ _ hg]
  rw [e]
  exact funext fun j => over_congr _ _ j _ (cover_outs _ _ _ j)

end Cert.KernelIdeal.Spec

end
-- ==== Proof.Runs.lean ====
/-
  The kernel body's five runs, one per kind of grid point, each at whole buffers of any contents: what it leaves in every
  buffer it stores to, in the functions of Spec.lean.
-/
module

public import proofs.«01_k».proof.Proof.Gen.KernelIdeal.Frame
public import proofs.«01_k».proof.Proof.Gen.KernelIdeal.Skeleton
public import proofs.«01_k».proof.Proof.Spec

@[expose] public section

set_option maxRecDepth 16384

noncomputable section

namespace Cert.KernelIdeal.Runs

open Cert.KernelIdeal Cert.KernelIdeal.Gen Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (E : Set ℕ) (i : grid0.Coords) (arg1 : Memref sig .tc .vmem S1x32x32x384 .f32) (harg1 : arg1.IsWhole) (arg2 : Memref sig .tc .vmem S3x1152x256 .bf16) (harg2 : arg2.IsWhole) (arg3 : Memref sig .tc .vmem S3x768x256 .bf16) (harg3 : arg3.IsWhole) (arg4 : Memref sig .tc .vmem S3x768x128 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x1 .f32) (harg11 : arg11.IsWhole) (arg12 : Memref sig .tc .vmem S1x1024x1 .f32) (harg12 : arg12.IsWhole) (arg13 : Memref sig .tc .vmem S16x32x32x256 .bf16) (harg13 : arg13.IsWhole) (arg14 : Memref sig .tc .vmem S16x32x32x256 .bf16) (harg14 : arg14.IsWhole) (arg15 : Memref sig .tc .vmem S2x256 .f32) (harg15 : arg15.IsWhole) (arg16 : Memref sig .tc .vmem S2x256 .f32) (harg16 : arg16.IsWhole) (arg17 : Memref sig .tc .vmem S34x32x1152 .bf16) (harg17 : arg17.IsWhole)

/-- First layer, block 0: also the zero rows of the slab, and the sums started. -/
theorem run_conv1_first
    (h1 : Scalar.cmpi .ne (Scalar.extui (Scalar.cmpi .eq (BitVec.ofNat 32 (i 0).val) 0#32) : BitVec 32) 0#32 = 1#1)
    (h7 : ¬ Scalar.cmpi .ne (Scalar.extui (Scalar.xori (Scalar.cmpi .eq (BitVec.ofNat 32 (i 0).val) 0#32) 1#1) : BitVec 32) 0#32 = 1#1)
    (h2 : k0_cond2 i = 1#1)
    (h5 : ¬ k0_cond5 i = 1#1)
    (h8 : ¬ k0_cond8 i = 1#1)
    (x1 : Vec F S1x32x32x384 .f32) (x2 : Vec F S3x1152x256 .bf16) (x5 : Vec F S1x256 .f32) (x13 : Vec F S16x32x32x256 .bf16) (x15 : Vec F S2x256 .f32) (x17 : Vec F S34x32x1152 .bf16)
    (K : PUnit → sProp 𝕄) :
    iprop(owns (c : Thread nD τ) arg1 fullShare x1
      ∗ owns (c : Thread nD τ) arg2 fullShare x2
      ∗ owns (c : Thread nD τ) arg5 fullShare x5
      ∗ owns (c : Thread nD τ) arg13 fullShare x13
      ∗ owns (c : Thread nD τ) arg15 fullShare x15
      ∗ owns (c : Thread nD τ) arg17 fullShare x17
      ∗ (iprop(owns (c : Thread nD τ) arg1 fullShare x1
        ∗ owns (c : Thread nD τ) arg2 fullShare x2
        ∗ owns (c : Thread nD τ) arg5 fullShare x5
        ∗ owns (c : Thread nD τ) arg13 fullShare (over x13 [⟨Rect.unit (s := S16x32x32x256) (k0_off2 i) S1x16x32x256.size (k0_off2_inb i h2), k0_pay27 (acc1b (over x17 (pieces1 x1 ++ zeroRows)) x2) x5⟩, ⟨Rect.unit (s := S16x32x32x256) (k0_off1 i) S1x16x32x256.size (k0_off1_inb i h2), k0_pay25 (acc1a (over x17 (pieces1 x1 ++ zeroRows)) x2) (k0_pay23 x5)⟩])
        ∗ owns (c : Thread nD τ) arg15 fullShare (over x15 (init1 (over x17 (pieces1 x1 ++ zeroRows)) x2 x5))
        ∗ owns (c : Thread nD τ) arg17 fullShare (over x17 (pieces1 x1 ++ zeroRows))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part1_eq_skeleton, k0_part2_eq_skeleton, k0_part3_eq_skeleton]
  unfold k0_part1_skel k0_part2_skel k0_part3_skel
  unfold owns
  iintro ⟨⟨%f1, %hf1, H1⟩, ⟨%f2, %hf2, H2⟩, ⟨%f5, %hf5, H5⟩, ⟨%f13, %hf13, H13⟩, ⟨%f15, %hf15, H15⟩, ⟨%f17, %hf17, H17⟩, Hk⟩
  subst hf1 hf2 hf5 hf13 hf15 hf17
  sl_exec (disch := first | sl_exact h1 | sl_exact h7 | sl_exact h2 | sl_exact h5 | sl_exact h8)
  sl_step
  have hP : run_conv1_first.sl.H17_5 c arg1 f1 = pieces1 (View.read (Elt F) arg1.view f1) ++ zeroRows := by
    unfold run_conv1_first.sl.H17_5
    exact congrArg (fun x : Vec F S1x32x32x384 .f32 => pieces1 x ++ zeroRows) (ld_whole4 _ _)
  have hv32 : run_conv1_first.sl.v32 c arg1 arg17 f1 = View.ld (over (View.read (Elt F) arg17.view f17) (pieces1 (View.read (Elt F) arg1.view f1) ++ zeroRows)) (Rect.unit (s := S34x32x1152) ![0, 0, 0] S16x32x1152.size inb_S34x32x1152_S16x32x1152_0_0_0) := by
    unfold run_conv1_first.sl.v32; rw [hP]
    refine readCov_eq_over _ _ _ _ fun j => ?_
    have hj := emb_box _ _ _ inb_S34x32x1152_S16x32x1152_0_0_0 j
    exact cover1Z _ _
  have hv38 : run_conv1_first.sl.v38 c arg1 arg17 f1 = View.ld (over (View.read (Elt F) arg17.view f17) (pieces1 (View.read (Elt F) arg1.view f1) ++ zeroRows)) (Rect.unit (s := S34x32x1152) ![1, 0, 0] S16x32x1152.size inb_S34x32x1152_S16x32x1152_1_0_0) := by
    unfold run_conv1_first.sl.v38; rw [hP]
    refine readCov_eq_over _ _ _ _ fun j => ?_
    have hj := emb_box _ _ _ inb_S34x32x1152_S16x32x1152_1_0_0 j
    exact cover1Z _ _
  have hv44 : run_conv1_first.sl.v44 c arg1 arg17 f1 = View.ld (over (View.read (Elt F) arg17.view f17) (pieces1 (View.read (Elt F) arg1.view f1) ++ zeroRows)) (Rect.unit (s := S34x32x1152) ![2, 0, 0] S16x32x1152.size inb_S34x32x1152_S16x32x1152_2_0_0) := by
    unfold run_conv1_first.sl.v44; rw [hP]
    refine readCov_eq_over _ _ _ _ fun j => ?_
    have hj := emb_box _ _ _ inb_S34x32x1152_S16x32x1152_2_0_0 j
    exact cover1Z _ _
  have hv51 : run_conv1_first.sl.v51 c arg1 arg17 f1 = View.ld (over (View.read (Elt F) arg17.view f17) (pieces1 (View.read (Elt F) arg1.view f1) ++ zeroRows)) (Rect.unit (s := S34x32x1152) ![16, 0, 0] S16x32x1152.size inb_S34x32x1152_S16x32x1152_16_0_0) := by
    unfold run_conv1_first.sl.v51; rw [hP]
    refine readCov_eq_over _ _ _ _ fun j => ?_
    have hj := emb_box _ _ _ inb_S34x32x1152_S16x32x1152_16_0_0 j
    exact cover1Z _ _
  have hv57 : run_conv1_first.sl.v57 c arg1 arg17 f1 = View.ld (over (View.read (Elt F) arg17.view f17) (pieces1 (View.read (Elt F) arg1.view f1) ++ zeroRows)) (Rect.unit (s := S34x32x1152) ![17, 0, 0] S16x32x1152.size inb_S34x32x1152_S16x32x1152_17_0_0) := by
    unfold run_conv1_first.sl.v57; rw [hP]
    refine readCov_eq_over _ _ _ _ fun j => ?_
    have hj := emb_box _ _ _ inb_S34x32x1152_S16x32x1152_17_0_0 j
    exact cover1Z _ _
  have hv63 : run_conv1_first.sl.v63 c arg1 arg17 f1 = View.ld (over (View.read (Elt F) arg17.view f17) (pieces1 (View.read (Elt F) arg1.view f1) ++ zeroRows)) (Rect.unit (s := S34x32x1152) ![18, 0, 0] S16x32x1152.size inb_S34x32x1152_S16x32x1152_18_0_0) := by
    unfold run_conv1_first.sl.v63; rw [hP]
    refine readCov_eq_over _ _ _ _ fun j => ?_
    have hj := emb_box _ _ _ inb_S34x32x1152_S16x32x1152_18_0_0 j
    exact cover1Z _ _
  iapply Hk
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  isplitl [H13]
  · iexists _; isplitr
    swap; · iexact H13
    ipureintro
    dsimp only
    simp only [hv32, hv38, hv44, hv51, hv57, hv63, hP, View.readAt_eq_ld, read_writes_eq_over, ld_whole2]
    rfl
  isplitl [H15]
  · iexists _; isplitr
    swap; · iexact H15
    ipureintro
    dsimp only
    simp only [hv32, hv38, hv44, hv51, hv57, hv63, hP, View.readAt_eq_ld, read_writes_eq_over, ld_whole2]
    rfl
  iexists _; isplitr
  swap; · iexact H17
  ipureintro
  rw [read_writes_eq_over, hP]

/-- First layer, a later block: its slab, its rows of the first array, its sums added. -/
theorem run_conv1
    (h1 : ¬ Scalar.cmpi .ne (Scalar.extui (Scalar.cmpi .eq (BitVec.ofNat 32 (i 0).val) 0#32) : BitVec 32) 0#32 = 1#1)
    (h7 : Scalar.cmpi .ne (Scalar.extui (Scalar.xori (Scalar.cmpi .eq (BitVec.ofNat 32 (i 0).val) 0#32) 1#1) : BitVec 32) 0#32 = 1#1)
    (h2 : k0_cond2 i = 1#1)
    (h5 : ¬ k0_cond5 i = 1#1)
    (h8 : ¬ k0_cond8 i = 1#1)
    (x1 : Vec F S1x32x32x384 .f32) (x2 : Vec F S3x1152x256 .bf16) (x5 : Vec F S1x256 .f32) (x13 : Vec F S16x32x32x256 .bf16) (x15 : Vec F S2x256 .f32) (x17 : Vec F S34x32x1152 .bf16)
    (K : PUnit → sProp 𝕄) :
    iprop(owns (c : Thread nD τ) arg1 fullShare x1
      ∗ owns (c : Thread nD τ) arg2 fullShare x2
      ∗ owns (c : Thread nD τ) arg5 fullShare x5
      ∗ owns (c : Thread nD τ) arg13 fullShare x13
      ∗ owns (c : Thread nD τ) arg15 fullShare x15
      ∗ owns (c : Thread nD τ) arg17 fullShare x17
      ∗ (iprop(owns (c : Thread nD τ) arg1 fullShare x1
        ∗ owns (c : Thread nD τ) arg2 fullShare x2
        ∗ owns (c : Thread nD τ) arg5 fullShare x5
        ∗ owns (c : Thread nD τ) arg13 fullShare (over x13 [⟨Rect.unit (s := S16x32x32x256) (k0_off2 i) S1x16x32x256.size (k0_off2_inb i h2), k0_pay27 (acc1b (over x17 (pieces1 x1)) x2) x5⟩, ⟨Rect.unit (s := S16x32x32x256) (k0_off1 i) S1x16x32x256.size (k0_off1_inb i h2), k0_pay25 (acc1a (over x17 (pieces1 x1)) x2) (k0_pay23 x5)⟩])
        ∗ owns (c : Thread nD τ) arg15 fullShare (over x15 (step1 (over x17 (pieces1 x1)) x2 x5 x15))
        ∗ owns (c : Thread nD τ) arg17 fullShare (over x17 (pieces1 x1))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part1_eq_skeleton, k0_part2_eq_skeleton, k0_part3_eq_skeleton]
  unfold k0_part1_skel k0_part2_skel k0_part3_skel
  unfold owns
  iintro ⟨⟨%f1, %hf1, H1⟩, ⟨%f2, %hf2, H2⟩, ⟨%f5, %hf5, H5⟩, ⟨%f13, %hf13, H13⟩, ⟨%f15, %hf15, H15⟩, ⟨%f17, %hf17, H17⟩, Hk⟩
  subst hf1 hf2 hf5 hf13 hf15 hf17
  sl_exec (disch := first | sl_exact h1 | sl_exact h7 | sl_exact h2 | sl_exact h5 | sl_exact h8)
  sl_step
  have hP : run_conv1.sl.H17_3 c arg1 f1 = pieces1 (View.read (Elt F) arg1.view f1) := by
    unfold run_conv1.sl.H17_3
    exact congrArg (fun x => pieces1 x) (ld_whole4 _ _)
  have hv38 : run_conv1.sl.v38 c arg1 arg17 f1 = View.ld (over (View.read (Elt F) arg17.view f17) (pieces1 (View.read (Elt F) arg1.view f1))) (Rect.unit (s := S34x32x1152) ![1, 0, 0] S16x32x1152.size inb_S34x32x1152_S16x32x1152_1_0_0) := by
    unfold run_conv1.sl.v38; rw [hP]
    refine readCov_eq_over _ _ _ _ fun j => ?_
    have hj := emb_box _ _ _ inb_S34x32x1152_S16x32x1152_1_0_0 j
    exact cover1 _ _ (le_of_le_of_eq (by omega) hj.1.symm) (lt_of_eq_of_lt hj.1 (by have := hj.2.2.1; omega))
  have hv44 : run_conv1.sl.v44 c arg1 arg17 f1 = View.ld (over (View.read (Elt F) arg17.view f17) (pieces1 (View.read (Elt F) arg1.view f1))) (Rect.unit (s := S34x32x1152) ![2, 0, 0] S16x32x1152.size inb_S34x32x1152_S16x32x1152_2_0_0) := by
    unfold run_conv1.sl.v44; rw [hP]
    refine readCov_eq_over _ _ _ _ fun j => ?_
    have hj := emb_box _ _ _ inb_S34x32x1152_S16x32x1152_2_0_0 j
    exact cover1 _ _ (le_of_le_of_eq (by omega) hj.1.symm) (lt_of_eq_of_lt hj.1 (by have := hj.2.2.1; omega))
  have hv51 : run_conv1.sl.v51 c arg1 arg17 f1 = View.ld (over (View.read (Elt F) arg17.view f17) (pieces1 (View.read (Elt F) arg1.view f1))) (Rect.unit (s := S34x32x1152) ![16, 0, 0] S16x32x1152.size inb_S34x32x1152_S16x32x1152_16_0_0) := by
    unfold run_conv1.sl.v51; rw [hP]
    refine readCov_eq_over _ _ _ _ fun j => ?_
    have hj := emb_box _ _ _ inb_S34x32x1152_S16x32x1152_16_0_0 j
    exact cover1 _ _ (le_of_le_of_eq (by omega) hj.1.symm) (lt_of_eq_of_lt hj.1 (by have := hj.2.2.1; omega))
  have hv57 : run_conv1.sl.v57 c arg1 arg17 f1 = View.ld (over (View.read (Elt F) arg17.view f17) (pieces1 (View.read (Elt F) arg1.view f1))) (Rect.unit (s := S34x32x1152) ![17, 0, 0] S16x32x1152.size inb_S34x32x1152_S16x32x1152_17_0_0) := by
    unfold run_conv1.sl.v57; rw [hP]
    refine readCov_eq_over _ _ _ _ fun j => ?_
    have hj := emb_box _ _ _ inb_S34x32x1152_S16x32x1152_17_0_0 j
    exact cover1 _ _ (le_of_le_of_eq (by omega) hj.1.symm) (lt_of_eq_of_lt hj.1 (by have := hj.2.2.1; omega))
  iapply Hk
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  isplitl [H13]
  · iexists _; isplitr
    swap; · iexact H13
    ipureintro
    dsimp only
    simp only [hv38, hv44, hv51, hv57, hP, View.readAt_eq_ld, read_writes_eq_over, ld_whole2]
    rfl
  isplitl [H15]
  · iexists _; isplitr
    swap; · iexact H15
    ipureintro
    dsimp only
    simp only [hv38, hv44, hv51, hv57, hP, View.readAt_eq_ld, read_writes_eq_over, ld_whole2]
    rfl
  iexists _; isplitr
  swap; · iexact H17
  ipureintro
  rw [read_writes_eq_over, hP]

/-- Second layer, block 0: the sums started. -/
theorem run_conv2_first
    (h1 : ¬ Scalar.cmpi .ne (Scalar.extui (Scalar.cmpi .eq (BitVec.ofNat 32 (i 0).val) 0#32) : BitVec 32) 0#32 = 1#1)
    (h2 : ¬ k0_cond2 i = 1#1)
    (h5 : k0_cond5 i = 1#1)
    (h6 : Scalar.cmpi .ne (Scalar.extui (Scalar.cmpi .eq (BitVec.ofNat 32 (i 0).val) 16#32) : BitVec 32) 0#32 = 1#1)
    (h9 : ¬ Scalar.cmpi .ne (Scalar.extui (Scalar.xori (Scalar.cmpi .eq (BitVec.ofNat 32 (i 0).val) 16#32) 1#1) : BitVec 32) 0#32 = 1#1)
    (h8 : ¬ k0_cond8 i = 1#1)
    (x3 : Vec F S3x768x256 .bf16) (x6 : Vec F S1x256 .f32) (x7 : Vec F S1x256 .f32) (x8 : Vec F S1x256 .f32) (x13 : Vec F S16x32x32x256 .bf16) (x14 : Vec F S16x32x32x256 .bf16) (x15 : Vec F S2x256 .f32) (x16 : Vec F S2x256 .f32) (x17 : Vec F S34x32x1152 .bf16)
    (K : PUnit → sProp 𝕄) :
    iprop(owns (c : Thread nD τ) arg3 fullShare x3
      ∗ owns (c : Thread nD τ) arg6 fullShare x6
      ∗ owns (c : Thread nD τ) arg7 fullShare x7
      ∗ owns (c : Thread nD τ) arg8 fullShare x8
      ∗ owns (c : Thread nD τ) arg13 fullShare x13
      ∗ owns (c : Thread nD τ) arg14 fullShare x14
      ∗ owns (c : Thread nD τ) arg15 fullShare x15
      ∗ owns (c : Thread nD τ) arg16 fullShare x16
      ∗ owns (c : Thread nD τ) arg17 fullShare x17
      ∗ (iprop(owns (c : Thread nD τ) arg3 fullShare x3
        ∗ owns (c : Thread nD τ) arg6 fullShare x6
        ∗ owns (c : Thread nD τ) arg7 fullShare x7
        ∗ owns (c : Thread nD τ) arg8 fullShare x8
        ∗ owns (c : Thread nD τ) arg13 fullShare x13
        ∗ owns (c : Thread nD τ) arg14 fullShare (over x14 [⟨Rect.unit (s := S16x32x32x256) (k0_off5 i) S1x16x32x256.size (k0_off5_inb i h5), k0_pay5 (acc2b (over x17 (pieces2 (row0 x15) (row1 x15) x6 x7 (View.ld x13 (Rect.unit (s := S16x32x32x256) (k0_off3 i) S1x32x32x256.size (k0_off3_inb i h5))))) x3) x8⟩, ⟨Rect.unit (s := S16x32x32x256) (k0_off4 i) S1x16x32x256.size (k0_off4_inb i h5), k0_pay45 (acc2a (over x17 (pieces2 (row0 x15) (row1 x15) x6 x7 (View.ld x13 (Rect.unit (s := S16x32x32x256) (k0_off3 i) S1x32x32x256.size (k0_off3_inb i h5))))) x3) x8⟩])
        ∗ owns (c : Thread nD τ) arg15 fullShare x15
        ∗ owns (c : Thread nD τ) arg16 fullShare (over x16 (init2 (over x17 (pieces2 (row0 x15) (row1 x15) x6 x7 (View.ld x13 (Rect.unit (s := S16x32x32x256) (k0_off3 i) S1x32x32x256.size (k0_off3_inb i h5))))) x3 x8))
        ∗ owns (c : Thread nD τ) arg17 fullShare (over x17 (pieces2 (row0 x15) (row1 x15) x6 x7 (View.ld x13 (Rect.unit (s := S16x32x32x256) (k0_off3 i) S1x32x32x256.size (k0_off3_inb i h5)))))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part4_eq_skeleton, k0_part5_eq_skeleton, k0_part6_eq_skeleton]
  unfold k0_part4_skel k0_part5_skel k0_part6_skel
  unfold owns
  iintro ⟨⟨%f3, %hf3, H3⟩, ⟨%f6, %hf6, H6⟩, ⟨%f7, %hf7, H7⟩, ⟨%f8, %hf8, H8⟩, ⟨%f13, %hf13, H13⟩, ⟨%f14, %hf14, H14⟩, ⟨%f15, %hf15, H15⟩, ⟨%f16, %hf16, H16⟩, ⟨%f17, %hf17, H17⟩, Hk⟩
  subst hf3 hf6 hf7 hf8 hf13 hf14 hf15 hf16 hf17
  sl_exec (disch := first | sl_exact h1 | sl_exact h2 | sl_exact h5 | sl_exact h6 | sl_exact h9 | sl_exact h8)
  sl_step
  have hP : run_conv2_first.sl.H17_3 c i arg6 arg7 arg13 arg15 arg17 h5 f6 f7 f13 f15 f17 = pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))) := by
    unfold run_conv2_first.sl.H17_3
    simp only [View.readAt_eq_ld, ld_whole2]
    rfl
  have hv69 : run_conv2_first.sl.v69 c i arg6 arg7 arg13 arg15 arg17 h5 f6 f7 f13 f15 f17 = View.ld (over (View.read (Elt F) arg17.view f17) (pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))))) (Rect.unit (s := S34x32x1152) ![1, 0, 0] S16x32x768.size inb_S34x32x1152_S16x32x768_1_0_0) := by
    unfold run_conv2_first.sl.v69; rw [hP]
    refine readCov_eq_over _ _ _ _ fun j => ?_
    have hj := emb_box _ _ _ inb_S34x32x1152_S16x32x768_1_0_0 j
    exact cover256 _ _ _ _ (le_of_le_of_eq (by omega) hj.1.symm) (lt_of_eq_of_lt hj.1 (by have := hj.2.2.1; omega)) (lt_of_eq_of_lt hj.2.1 hj.2.2.2)
  have hv88 : run_conv2_first.sl.v88 c i arg6 arg7 arg13 arg15 arg17 h5 f6 f7 f13 f15 f17 = View.ld (over (View.read (Elt F) arg17.view f17) (pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))))) (Rect.unit (s := S34x32x1152) ![17, 0, 0] S16x32x768.size inb_S34x32x1152_S16x32x768_17_0_0) := by
    unfold run_conv2_first.sl.v88; rw [hP]
    refine readCov_eq_over _ _ _ _ fun j => ?_
    have hj := emb_box _ _ _ inb_S34x32x1152_S16x32x768_17_0_0 j
    exact cover256 _ _ _ _ (le_of_le_of_eq (by omega) hj.1.symm) (lt_of_eq_of_lt hj.1 (by have := hj.2.2.1; omega)) (lt_of_eq_of_lt hj.2.1 hj.2.2.2)
  have hv63 : run_conv2_first.sl.v63 c i arg6 arg7 arg13 arg15 arg17 h5 f6 f7 f13 f15 f17 = View.ld (over (View.read (Elt F) arg17.view f17) (pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))))) (Rect.unit (s := S34x32x1152) ![0, 0, 0] S16x32x768.size inb_S34x32x1152_S16x32x768_0_0_0) := by
    unfold run_conv2_first.sl.v63; rw [View.readAt_eq_ld, read_writes_eq_over, hP]
  have hv75 : run_conv2_first.sl.v75 c i arg6 arg7 arg13 arg15 arg17 h5 f6 f7 f13 f15 f17 = View.ld (over (View.read (Elt F) arg17.view f17) (pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))))) (Rect.unit (s := S34x32x1152) ![2, 0, 0] S16x32x768.size inb_S34x32x1152_S16x32x768_2_0_0) := by
    unfold run_conv2_first.sl.v75; rw [hP]
    refine readCov_eq_over _ _ _ _ fun j => ?_
    have hj := emb_box _ _ _ inb_S34x32x1152_S16x32x768_2_0_0 j
    exact cover256 _ _ _ _ (le_of_le_of_eq (by omega) hj.1.symm) (lt_of_eq_of_lt hj.1 (by have := hj.2.2.1; omega)) (lt_of_eq_of_lt hj.2.1 hj.2.2.2)
  have hv82 : run_conv2_first.sl.v82 c i arg6 arg7 arg13 arg15 arg17 h5 f6 f7 f13 f15 f17 = View.ld (over (View.read (Elt F) arg17.view f17) (pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))))) (Rect.unit (s := S34x32x1152) ![16, 0, 0] S16x32x768.size inb_S34x32x1152_S16x32x768_16_0_0) := by
    unfold run_conv2_first.sl.v82; rw [hP]
    refine readCov_eq_over _ _ _ _ fun j => ?_
    have hj := emb_box _ _ _ inb_S34x32x1152_S16x32x768_16_0_0 j
    exact cover256 _ _ _ _ (le_of_le_of_eq (by omega) hj.1.symm) (lt_of_eq_of_lt hj.1 (by have := hj.2.2.1; omega)) (lt_of_eq_of_lt hj.2.1 hj.2.2.2)
  have hv94 : run_conv2_first.sl.v94 c i arg6 arg7 arg13 arg15 arg17 h5 f6 f7 f13 f15 f17 = View.ld (over (View.read (Elt F) arg17.view f17) (pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))))) (Rect.unit (s := S34x32x1152) ![18, 0, 0] S16x32x768.size inb_S34x32x1152_S16x32x768_18_0_0) := by
    unfold run_conv2_first.sl.v94; rw [View.readAt_eq_ld, read_writes_eq_over, hP]
  iapply Hk
  isplitl [H3]
  · iexists f3; isplitr; · ipureintro; rfl
    iexact H3
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H13]
  · iexists f13; isplitr; · ipureintro; rfl
    iexact H13
  isplitl [H14]
  · iexists _; isplitr
    swap; · iexact H14
    ipureintro
    dsimp only
    simp only [hv69, hv88, hv63, hv75, hv82, hv94, hP, View.readAt_eq_ld, read_writes_eq_over, ld_whole2]
    rfl
  isplitl [H15]
  · iexists f15; isplitr; · ipureintro; rfl
    iexact H15
  isplitl [H16]
  · iexists _; isplitr
    swap; · iexact H16
    ipureintro
    dsimp only
    simp only [hv69, hv88, hv63, hv75, hv82, hv94, hP, View.readAt_eq_ld, read_writes_eq_over, ld_whole2]
    rfl
  iexists _; isplitr
  swap; · iexact H17
  ipureintro
  rw [read_writes_eq_over, hP]

/-- Second layer, a later block. -/
theorem run_conv2
    (h1 : ¬ Scalar.cmpi .ne (Scalar.extui (Scalar.cmpi .eq (BitVec.ofNat 32 (i 0).val) 0#32) : BitVec 32) 0#32 = 1#1)
    (h2 : ¬ k0_cond2 i = 1#1)
    (h5 : k0_cond5 i = 1#1)
    (h6 : ¬ Scalar.cmpi .ne (Scalar.extui (Scalar.cmpi .eq (BitVec.ofNat 32 (i 0).val) 16#32) : BitVec 32) 0#32 = 1#1)
    (h9 : Scalar.cmpi .ne (Scalar.extui (Scalar.xori (Scalar.cmpi .eq (BitVec.ofNat 32 (i 0).val) 16#32) 1#1) : BitVec 32) 0#32 = 1#1)
    (h8 : ¬ k0_cond8 i = 1#1)
    (x3 : Vec F S3x768x256 .bf16) (x6 : Vec F S1x256 .f32) (x7 : Vec F S1x256 .f32) (x8 : Vec F S1x256 .f32) (x13 : Vec F S16x32x32x256 .bf16) (x14 : Vec F S16x32x32x256 .bf16) (x15 : Vec F S2x256 .f32) (x16 : Vec F S2x256 .f32) (x17 : Vec F S34x32x1152 .bf16)
    (K : PUnit → sProp 𝕄) :
    iprop(owns (c : Thread nD τ) arg3 fullShare x3
      ∗ owns (c : Thread nD τ) arg6 fullShare x6
      ∗ owns (c : Thread nD τ) arg7 fullShare x7
      ∗ owns (c : Thread nD τ) arg8 fullShare x8
      ∗ owns (c : Thread nD τ) arg13 fullShare x13
      ∗ owns (c : Thread nD τ) arg14 fullShare x14
      ∗ owns (c : Thread nD τ) arg15 fullShare x15
      ∗ owns (c : Thread nD τ) arg16 fullShare x16
      ∗ owns (c : Thread nD τ) arg17 fullShare x17
      ∗ (iprop(owns (c : Thread nD τ) arg3 fullShare x3
        ∗ owns (c : Thread nD τ) arg6 fullShare x6
        ∗ owns (c : Thread nD τ) arg7 fullShare x7
        ∗ owns (c : Thread nD τ) arg8 fullShare x8
        ∗ owns (c : Thread nD τ) arg13 fullShare x13
        ∗ owns (c : Thread nD τ) arg14 fullShare (over x14 [⟨Rect.unit (s := S16x32x32x256) (k0_off5 i) S1x16x32x256.size (k0_off5_inb i h5), k0_pay5 (acc2b (over x17 (pieces2 (row0 x15) (row1 x15) x6 x7 (View.ld x13 (Rect.unit (s := S16x32x32x256) (k0_off3 i) S1x32x32x256.size (k0_off3_inb i h5))))) x3) x8⟩, ⟨Rect.unit (s := S16x32x32x256) (k0_off4 i) S1x16x32x256.size (k0_off4_inb i h5), k0_pay45 (acc2a (over x17 (pieces2 (row0 x15) (row1 x15) x6 x7 (View.ld x13 (Rect.unit (s := S16x32x32x256) (k0_off3 i) S1x32x32x256.size (k0_off3_inb i h5))))) x3) x8⟩])
        ∗ owns (c : Thread nD τ) arg15 fullShare x15
        ∗ owns (c : Thread nD τ) arg16 fullShare (over x16 (step2 (over x17 (pieces2 (row0 x15) (row1 x15) x6 x7 (View.ld x13 (Rect.unit (s := S16x32x32x256) (k0_off3 i) S1x32x32x256.size (k0_off3_inb i h5))))) x3 x8 x16))
        ∗ owns (c : Thread nD τ) arg17 fullShare (over x17 (pieces2 (row0 x15) (row1 x15) x6 x7 (View.ld x13 (Rect.unit (s := S16x32x32x256) (k0_off3 i) S1x32x32x256.size (k0_off3_inb i h5)))))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part4_eq_skeleton, k0_part5_eq_skeleton, k0_part6_eq_skeleton]
  unfold k0_part4_skel k0_part5_skel k0_part6_skel
  unfold owns
  iintro ⟨⟨%f3, %hf3, H3⟩, ⟨%f6, %hf6, H6⟩, ⟨%f7, %hf7, H7⟩, ⟨%f8, %hf8, H8⟩, ⟨%f13, %hf13, H13⟩, ⟨%f14, %hf14, H14⟩, ⟨%f15, %hf15, H15⟩, ⟨%f16, %hf16, H16⟩, ⟨%f17, %hf17, H17⟩, Hk⟩
  subst hf3 hf6 hf7 hf8 hf13 hf14 hf15 hf16 hf17
  sl_exec (disch := first | sl_exact h1 | sl_exact h2 | sl_exact h5 | sl_exact h6 | sl_exact h9 | sl_exact h8)
  sl_step
  have hP : run_conv2.sl.H17_3 c i arg6 arg7 arg13 arg15 arg17 h5 f6 f7 f13 f15 f17 = pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))) := by
    unfold run_conv2.sl.H17_3
    simp only [View.readAt_eq_ld, ld_whole2]
    rfl
  have hv69 : run_conv2.sl.v69 c i arg6 arg7 arg13 arg15 arg17 h5 f6 f7 f13 f15 f17 = View.ld (over (View.read (Elt F) arg17.view f17) (pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))))) (Rect.unit (s := S34x32x1152) ![1, 0, 0] S16x32x768.size inb_S34x32x1152_S16x32x768_1_0_0) := by
    unfold run_conv2.sl.v69; rw [hP]
    refine readCov_eq_over _ _ _ _ fun j => ?_
    have hj := emb_box _ _ _ inb_S34x32x1152_S16x32x768_1_0_0 j
    exact cover256 _ _ _ _ (le_of_le_of_eq (by omega) hj.1.symm) (lt_of_eq_of_lt hj.1 (by have := hj.2.2.1; omega)) (lt_of_eq_of_lt hj.2.1 hj.2.2.2)
  have hv88 : run_conv2.sl.v88 c i arg6 arg7 arg13 arg15 arg17 h5 f6 f7 f13 f15 f17 = View.ld (over (View.read (Elt F) arg17.view f17) (pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))))) (Rect.unit (s := S34x32x1152) ![17, 0, 0] S16x32x768.size inb_S34x32x1152_S16x32x768_17_0_0) := by
    unfold run_conv2.sl.v88; rw [hP]
    refine readCov_eq_over _ _ _ _ fun j => ?_
    have hj := emb_box _ _ _ inb_S34x32x1152_S16x32x768_17_0_0 j
    exact cover256 _ _ _ _ (le_of_le_of_eq (by omega) hj.1.symm) (lt_of_eq_of_lt hj.1 (by have := hj.2.2.1; omega)) (lt_of_eq_of_lt hj.2.1 hj.2.2.2)
  have hv63 : run_conv2.sl.v63 c i arg6 arg7 arg13 arg15 arg17 h5 f6 f7 f13 f15 f17 = View.ld (over (View.read (Elt F) arg17.view f17) (pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))))) (Rect.unit (s := S34x32x1152) ![0, 0, 0] S16x32x768.size inb_S34x32x1152_S16x32x768_0_0_0) := by
    unfold run_conv2.sl.v63; rw [View.readAt_eq_ld, read_writes_eq_over, hP]
  have hv75 : run_conv2.sl.v75 c i arg6 arg7 arg13 arg15 arg17 h5 f6 f7 f13 f15 f17 = View.ld (over (View.read (Elt F) arg17.view f17) (pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))))) (Rect.unit (s := S34x32x1152) ![2, 0, 0] S16x32x768.size inb_S34x32x1152_S16x32x768_2_0_0) := by
    unfold run_conv2.sl.v75; rw [hP]
    refine readCov_eq_over _ _ _ _ fun j => ?_
    have hj := emb_box _ _ _ inb_S34x32x1152_S16x32x768_2_0_0 j
    exact cover256 _ _ _ _ (le_of_le_of_eq (by omega) hj.1.symm) (lt_of_eq_of_lt hj.1 (by have := hj.2.2.1; omega)) (lt_of_eq_of_lt hj.2.1 hj.2.2.2)
  have hv82 : run_conv2.sl.v82 c i arg6 arg7 arg13 arg15 arg17 h5 f6 f7 f13 f15 f17 = View.ld (over (View.read (Elt F) arg17.view f17) (pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))))) (Rect.unit (s := S34x32x1152) ![16, 0, 0] S16x32x768.size inb_S34x32x1152_S16x32x768_16_0_0) := by
    unfold run_conv2.sl.v82; rw [hP]
    refine readCov_eq_over _ _ _ _ fun j => ?_
    have hj := emb_box _ _ _ inb_S34x32x1152_S16x32x768_16_0_0 j
    exact cover256 _ _ _ _ (le_of_le_of_eq (by omega) hj.1.symm) (lt_of_eq_of_lt hj.1 (by have := hj.2.2.1; omega)) (lt_of_eq_of_lt hj.2.1 hj.2.2.2)
  have hv94 : run_conv2.sl.v94 c i arg6 arg7 arg13 arg15 arg17 h5 f6 f7 f13 f15 f17 = View.ld (over (View.read (Elt F) arg17.view f17) (pieces2 (row0 (View.read (Elt F) arg15.view f15)) (row1 (View.read (Elt F) arg15.view f15)) (View.read (Elt F) arg6.view f6) (View.read (Elt F) arg7.view f7) (View.ld (View.read (Elt F) arg13.view f13) (Rect.unit (s := S16x32x32x256) (k0_off3 i) S1x32x32x256.size (k0_off3_inb i h5))))) (Rect.unit (s := S34x32x1152) ![18, 0, 0] S16x32x768.size inb_S34x32x1152_S16x32x768_18_0_0) := by
    unfold run_conv2.sl.v94; rw [View.readAt_eq_ld, read_writes_eq_over, hP]
  iapply Hk
  isplitl [H3]
  · iexists f3; isplitr; · ipureintro; rfl
    iexact H3
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H13]
  · iexists f13; isplitr; · ipureintro; rfl
    iexact H13
  isplitl [H14]
  · iexists _; isplitr
    swap; · iexact H14
    ipureintro
    dsimp only
    simp only [hv69, hv88, hv63, hv75, hv82, hv94, hP, View.readAt_eq_ld, read_writes_eq_over, ld_whole2]
    rfl
  isplitl [H15]
  · iexists f15; isplitr; · ipureintro; rfl
    iexact H15
  isplitl [H16]
  · iexists _; isplitr
    swap; · iexact H16
    ipureintro
    dsimp only
    simp only [hv69, hv88, hv63, hv75, hv82, hv94, hP, View.readAt_eq_ld, read_writes_eq_over, ld_whole2]
    rfl
  iexists _; isplitr
  swap; · iexact H17
  ipureintro
  rw [read_writes_eq_over, hP]

/-- Third layer, any block: the block of the result. -/
theorem run_conv3
    (h1 : ¬ Scalar.cmpi .ne (Scalar.extui (Scalar.cmpi .eq (BitVec.ofNat 32 (i 0).val) 0#32) : BitVec 32) 0#32 = 1#1)
    (h2 : ¬ k0_cond2 i = 1#1)
    (h5 : ¬ k0_cond5 i = 1#1)
    (h8 : k0_cond8 i = 1#1)
    (x4 : Vec F S3x768x128 .bf16) (x9 : Vec F S1x256 .f32) (x10 : Vec F S1x256 .f32) (x11 : Vec F S1x1 .f32) (x12 : Vec F S1x1024x1 .f32) (x14 : Vec F S16x32x32x256 .bf16) (x16 : Vec F S2x256 .f32) (x17 : Vec F S34x32x1152 .bf16)
    (K : PUnit → sProp 𝕄) :
    iprop(owns (c : Thread nD τ) arg4 fullShare x4
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg14 fullShare x14
      ∗ owns (c : Thread nD τ) arg16 fullShare x16
      ∗ owns (c : Thread nD τ) arg17 fullShare x17
      ∗ (iprop(owns (c : Thread nD τ) arg4 fullShare x4
        ∗ owns (c : Thread nD τ) arg9 fullShare x9
        ∗ owns (c : Thread nD τ) arg10 fullShare x10
        ∗ owns (c : Thread nD τ) arg11 fullShare x11
        ∗ owns (c : Thread nD τ) arg12 fullShare (over x12 (outs (over x17 (pieces3 (row0 x16) (row1 x16) x9 x10 (View.ld x14 (Rect.unit (s := S16x32x32x256) (k0_off6 i) S1x32x32x256.size (k0_off6_inb i h8))))) x4 x11))
        ∗ owns (c : Thread nD τ) arg14 fullShare x14
        ∗ owns (c : Thread nD τ) arg16 fullShare x16
        ∗ owns (c : Thread nD τ) arg17 fullShare (over x17 (pieces3 (row0 x16) (row1 x16) x9 x10 (View.ld x14 (Rect.unit (s := S16x32x32x256) (k0_off6 i) S1x32x32x256.size (k0_off6_inb i h8)))))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part7_eq_skeleton, k0_part8_eq_skeleton, k0_part9_eq_skeleton]
  unfold k0_part7_skel k0_part8_skel k0_part9_skel
  unfold owns
  iintro ⟨⟨%f4, %hf4, H4⟩, ⟨%f9, %hf9, H9⟩, ⟨%f10, %hf10, H10⟩, ⟨%f11, %hf11, H11⟩, ⟨%f12, %hf12, H12⟩, ⟨%f14, %hf14, H14⟩, ⟨%f16, %hf16, H16⟩, ⟨%f17, %hf17, H17⟩, Hk⟩
  subst hf4 hf9 hf10 hf11 hf12 hf14 hf16 hf17
  sl_exec (disch := first | sl_exact h1 | sl_exact h2 | sl_exact h5 | sl_exact h8)
  sl_step
  have hP : run_conv3.sl.H17_3 c i arg9 arg10 arg14 arg16 arg17 h8 f9 f10 f14 f16 f17 = pieces3 (row0 (View.read (Elt F) arg16.view f16)) (row1 (View.read (Elt F) arg16.view f16)) (View.read (Elt F) arg9.view f9) (View.read (Elt F) arg10.view f10) (View.ld (View.read (Elt F) arg14.view f14) (Rect.unit (s := S16x32x32x256) (k0_off6 i) S1x32x32x256.size (k0_off6_inb i h8))) := by
    unfold run_conv3.sl.H17_3
    simp only [View.readAt_eq_ld, ld_whole2]
    rfl
  have hv69 : run_conv3.sl.v69 c i arg9 arg10 arg14 arg16 arg17 h8 f9 f10 f14 f16 f17 = View.ld (over (View.read (Elt F) arg17.view f17) (pieces3 (row0 (View.read (Elt F) arg16.view f16)) (row1 (View.read (Elt F) arg16.view f16)) (View.read (Elt F) arg9.view f9) (View.read (Elt F) arg10.view f10) (View.ld (View.read (Elt F) arg14.view f14) (Rect.unit (s := S16x32x32x256) (k0_off6 i) S1x32x32x256.size (k0_off6_inb i h8))))) (Rect.unit (s := S34x32x1152) ![1, 0, 0] S16x32x768.size inb_S34x32x1152_S16x32x768_1_0_0) := by
    unfold run_conv3.sl.v69; rw [hP]
    refine readCov_eq_over _ _ _ _ fun j => ?_
    have hj := emb_box _ _ _ inb_S34x32x1152_S16x32x768_1_0_0 j
    exact cover256 _ _ _ _ (le_of_le_of_eq (by omega) hj.1.symm) (lt_of_eq_of_lt hj.1 (by have := hj.2.2.1; omega)) (lt_of_eq_of_lt hj.2.1 hj.2.2.2)
  have hv88 : run_conv3.sl.v88 c i arg9 arg10 arg14 arg16 arg17 h8 f9 f10 f14 f16 f17 = View.ld (over (View.read (Elt F) arg17.view f17) (pieces3 (row0 (View.read (Elt F) arg16.view f16)) (row1 (View.read (Elt F) arg16.view f16)) (View.read (Elt F) arg9.view f9) (View.read (Elt F) arg10.view f10) (View.ld (View.read (Elt F) arg14.view f14) (Rect.unit (s := S16x32x32x256) (k0_off6 i) S1x32x32x256.size (k0_off6_inb i h8))))) (Rect.unit (s := S34x32x1152) ![17, 0, 0] S16x32x768.size inb_S34x32x1152_S16x32x768_17_0_0) := by
    unfold run_conv3.sl.v88; rw [hP]
    refine readCov_eq_over _ _ _ _ fun j => ?_
    have hj := emb_box _ _ _ inb_S34x32x1152_S16x32x768_17_0_0 j
    exact cover256 _ _ _ _ (le_of_le_of_eq (by omega) hj.1.symm) (lt_of_eq_of_lt hj.1 (by have := hj.2.2.1; omega)) (lt_of_eq_of_lt hj.2.1 hj.2.2.2)
  have hv63 : run_conv3.sl.v63 c i arg9 arg10 arg14 arg16 arg17 h8 f9 f10 f14 f16 f17 = View.ld (over (View.read (Elt F) arg17.view f17) (pieces3 (row0 (View.read (Elt F) arg16.view f16)) (row1 (View.read (Elt F) arg16.view f16)) (View.read (Elt F) arg9.view f9) (View.read (Elt F) arg10.view f10) (View.ld (View.read (Elt F) arg14.view f14) (Rect.unit (s := S16x32x32x256) (k0_off6 i) S1x32x32x256.size (k0_off6_inb i h8))))) (Rect.unit (s := S34x32x1152) ![0, 0, 0] S16x32x768.size inb_S34x32x1152_S16x32x768_0_0_0) := by
    unfold run_conv3.sl.v63; rw [View.readAt_eq_ld, read_writes_eq_over, hP]
  have hv75 : run_conv3.sl.v75 c i arg9 arg10 arg14 arg16 arg17 h8 f9 f10 f14 f16 f17 = View.ld (over (View.read (Elt F) arg17.view f17) (pieces3 (row0 (View.read (Elt F) arg16.view f16)) (row1 (View.read (Elt F) arg16.view f16)) (View.read (Elt F) arg9.view f9) (View.read (Elt F) arg10.view f10) (View.ld (View.read (Elt F) arg14.view f14) (Rect.unit (s := S16x32x32x256) (k0_off6 i) S1x32x32x256.size (k0_off6_inb i h8))))) (Rect.unit (s := S34x32x1152) ![2, 0, 0] S16x32x768.size inb_S34x32x1152_S16x32x768_2_0_0) := by
    unfold run_conv3.sl.v75; rw [hP]
    refine readCov_eq_over _ _ _ _ fun j => ?_
    have hj := emb_box _ _ _ inb_S34x32x1152_S16x32x768_2_0_0 j
    exact cover256 _ _ _ _ (le_of_le_of_eq (by omega) hj.1.symm) (lt_of_eq_of_lt hj.1 (by have := hj.2.2.1; omega)) (lt_of_eq_of_lt hj.2.1 hj.2.2.2)
  have hv82 : run_conv3.sl.v82 c i arg9 arg10 arg14 arg16 arg17 h8 f9 f10 f14 f16 f17 = View.ld (over (View.read (Elt F) arg17.view f17) (pieces3 (row0 (View.read (Elt F) arg16.view f16)) (row1 (View.read (Elt F) arg16.view f16)) (View.read (Elt F) arg9.view f9) (View.read (Elt F) arg10.view f10) (View.ld (View.read (Elt F) arg14.view f14) (Rect.unit (s := S16x32x32x256) (k0_off6 i) S1x32x32x256.size (k0_off6_inb i h8))))) (Rect.unit (s := S34x32x1152) ![16, 0, 0] S16x32x768.size inb_S34x32x1152_S16x32x768_16_0_0) := by
    unfold run_conv3.sl.v82; rw [hP]
    refine readCov_eq_over _ _ _ _ fun j => ?_
    have hj := emb_box _ _ _ inb_S34x32x1152_S16x32x768_16_0_0 j
    exact cover256 _ _ _ _ (le_of_le_of_eq (by omega) hj.1.symm) (lt_of_eq_of_lt hj.1 (by have := hj.2.2.1; omega)) (lt_of_eq_of_lt hj.2.1 hj.2.2.2)
  have hv94 : run_conv3.sl.v94 c i arg9 arg10 arg14 arg16 arg17 h8 f9 f10 f14 f16 f17 = View.ld (over (View.read (Elt F) arg17.view f17) (pieces3 (row0 (View.read (Elt F) arg16.view f16)) (row1 (View.read (Elt F) arg16.view f16)) (View.read (Elt F) arg9.view f9) (View.read (Elt F) arg10.view f10) (View.ld (View.read (Elt F) arg14.view f14) (Rect.unit (s := S16x32x32x256) (k0_off6 i) S1x32x32x256.size (k0_off6_inb i h8))))) (Rect.unit (s := S34x32x1152) ![18, 0, 0] S16x32x768.size inb_S34x32x1152_S16x32x768_18_0_0) := by
    unfold run_conv3.sl.v94; rw [View.readAt_eq_ld, read_writes_eq_over, hP]
  iapply Hk
  isplitl [H4]
  · iexists f4; isplitr; · ipureintro; rfl
    iexact H4
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    dsimp only
    simp only [hv69, hv88, hv63, hv75, hv82, hv94, hP, View.readAt_eq_ld, read_writes_eq_over, ld_whole2, ld_whole2']
    rfl
  isplitl [H14]
  · iexists f14; isplitr; · ipureintro; rfl
    iexact H14
  isplitl [H16]
  · iexists f16; isplitr; · ipureintro; rfl
    iexact H16
  iexists _; isplitr
  swap; · iexact H17
  ipureintro
  rw [read_writes_eq_over, hP]

end Cert.KernelIdeal.Runs

end
-- ==== Proof.Body.lean ====
/-
  The run of the fused kernel: what a grid point is handed and leaves (the invariant over the scratch buffers' contents), the
  body's triple at each of the five kinds of grid point, and the launch.
-/
module

public import proofs.«01_k».proof.Proof.Steps
public import proofs.«01_k».proof.Proof.Runs
public import Idealize.ShloMosaic.Lib.Claim

@[expose] public section

noncomputable section

namespace Cert.KernelIdeal.Body

open Cert.KernelIdeal Cert.KernelIdeal.Gen Cert.KernelIdeal.Spec Cert.KernelIdeal.Runs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands as the windows show them -/

/-- The kernel's operands on core `c`. -/
def inp (c : Dev nD) : Inp F where
  x n := if h : n < cfg0.N then iblk m c 0 ⟨n, h⟩ else constant S1x32x32x384 .f32 0x00000000#32
  w1 := iblk m c 1 ⟨0, by decide⟩
  w2 := iblk m c 2 ⟨0, by decide⟩
  w3 := iblk m c 3 ⟨0, by decide⟩
  b1 := iblk m c 4 ⟨0, by decide⟩
  g1 := iblk m c 5 ⟨0, by decide⟩
  be1 := iblk m c 6 ⟨0, by decide⟩
  b2 := iblk m c 7 ⟨0, by decide⟩
  g2 := iblk m c 8 ⟨0, by decide⟩
  be2 := iblk m c 9 ⟨0, by decide⟩
  b3 := iblk m c 10 ⟨0, by decide⟩

theorem inp_x (c : Dev nD) (t : Fin cfg0.N) : iblk m c 0 t = (inp m c).x t.val := by
  unfold inp
  show iblk m c 0 t = if h : t.val < cfg0.N then iblk m c 0 ⟨t.val, h⟩ else constant S1x32x32x384 .f32 0x00000000#32
  split
  · rfl
  · exact absurd t.isLt (by assumption)
theorem inp_w1 (c : Dev nD) (t : Fin cfg0.N) : iblk m c 1 t = (inp m c).w1 := rfl
theorem inp_w2 (c : Dev nD) (t : Fin cfg0.N) : iblk m c 2 t = (inp m c).w2 := rfl
theorem inp_w3 (c : Dev nD) (t : Fin cfg0.N) : iblk m c 3 t = (inp m c).w3 := rfl
theorem inp_b1 (c : Dev nD) (t : Fin cfg0.N) : iblk m c 4 t = (inp m c).b1 := rfl
theorem inp_g1 (c : Dev nD) (t : Fin cfg0.N) : iblk m c 5 t = (inp m c).g1 := rfl
theorem inp_be1 (c : Dev nD) (t : Fin cfg0.N) : iblk m c 6 t = (inp m c).be1 := rfl
theorem inp_b2 (c : Dev nD) (t : Fin cfg0.N) : iblk m c 7 t = (inp m c).b2 := rfl
theorem inp_g2 (c : Dev nD) (t : Fin cfg0.N) : iblk m c 8 t = (inp m c).g2 := rfl
theorem inp_be2 (c : Dev nD) (t : Fin cfg0.N) : iblk m c 9 t = (inp m c).be2 := rfl
theorem inp_b3 (c : Dev nD) (t : Fin cfg0.N) : iblk m c 10 t = (inp m c).b3 := rfl

/-! ## The invariant and the proof data -/

/-- Before grid point `t`: the scratch buffers at contents the points before it determine (`Inv`), and the generator register. -/
def Phi (I : Inp F) (c : Dev nD) (t : ℕ) : sProp 𝕄 :=
  iprop(∃ Y1 Y2 T1 T2 Z, ⌜Inv I t Y1 Y2 T1 T2 Z⌝
    ∗ owns (c : Thread nD τ) (Memref.whole cc0_scratch0) fullShare Y1
    ∗ owns (c : Thread nD τ) (Memref.whole cc0_scratch1) fullShare Y2
    ∗ owns (c : Thread nD τ) (Memref.whole cc0_scratch2) fullShare T1
    ∗ owns (c : Thread nD τ) (Memref.whole cc0_scratch3) fullShare T2
    ∗ owns (c : Thread nD τ) (Memref.whole cc0_scratch4) fullShare Z
    ∗ ∃ r, prngReg c r)

/-- The pipeline's proof data on core `c`: the inputs stay, and from grid point 32 on the result's block is `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out (inp m c) (t.val - 32)
  Φ t := Phi (inp m c) c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out (inp m c) (t.val - 32) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The output window: idle before grid point 32, written back from it on -/

/-- The output window is idle at the first 32 points. -/
theorem idle11 : ∀ t : Fin cfg0.N, cfg0.idle 11 (cfg0.grid.coords t) = decide (t.val < 32) := by decide
/-- It is not written back there. -/
theorem flush11 (t : Fin cfg0.N) (h : t.val < 32) : (cfg0.win 11).flush t = false := by
  have key : ∀ t : Fin cfg0.N, t.val < 32 → (cfg0.win 11).flush t = false := by decide
  exact key t h

/-- It is left as it was there. -/
theorem leaves_lt (c : Dev nD) (t : Fin cfg0.N) (h : t.val < 32) :
    (dats m 0 c).leavesExact 11 t = iprop(∃ d, owns (c : Thread nD τ) (st0_11 t) fullShare ((dats m 0 c).before 11 t d)) :=
  (dats m 0 c).leavesExact_idle 11 t (by rw [idle11]; exact decide_eq_true h) (flush11 t h)

/-- From point 32 on it holds the output block. -/
theorem leaves_ge (c : Dev nD) (t : Fin cfg0.N) (h : 32 ≤ t.val) :
    (dats m 0 c).leavesExact 11 t = owns (c : Thread nD τ) (st0_11 t) fullShare (out (inp m c) (t.val - 32)) := by
  unfold Dat.leavesExact
  rw [show cfg0.idle 11 (cfg0.grid.coords t) = false by rw [idle11]; exact decide_eq_false (by omega)]
  rfl

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t)

/-- The first grid point. -/
theorem body_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, after0_0, after0_1, after0_2, after0_3, after0_4, after0_5, after0_6, after0_7, after0_8, after0_9, after0_10]
  rw [leaves_lt m c t (by omega), show (dats m 0 c).Φ t.castSucc = Phi (inp m c) c t.val from rfl,
    show (dats m 0 c).Φ t.succ = Phi (inp m c) c (t.val + 1) from rfl,
    show (dats m 0 c).owesAt () t.succ = (dats m 0 c).owesAt () t.castSucc from rfl]
  unfold Phi
  iintro ⟨⟨%Y1, %Y2, %T1, %T2, %Z, %hI, S0, S1, S2, S3, S4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_conv1_first c Set.univ (grid0.coords t) _ _ _ _ _ _ _ _ _ _ _ _ _ _ _ _ _ _ _ _ _ _ _ _ _ _ _ _ _ _ _ _ _ _
    ((eq0_iff t).2 ht) (fun h => (ne0_iff t).1 h ht) ((cond2_iff t).2 (by omega)) (fun h => by have := (cond5_iff t).1 h; omega) (fun h => by have := (cond8_iff t).1 h; omega)
    (iblk m c 0 t) (iblk m c 1 t) (iblk m c 4 t) Y1 T1 Z _)
  isplitl [H0]; · iexact H0
  isplitl [H1]; · iexact H1
  isplitl [H4]; · iexact H4
  isplitl [S0]; · iexact S0
  isplitl [S2]; · iexact S2
  isplitl [S4]; · iexact S4
  iintro ⟨H0, H1, H4, S0, S2, S4⟩
  isplitl [S0 S1 S2 S3 S4 Hr]
  · iexists _, Y2, _, T2, _
    isplitr; swap
    · isplitl [S0]; · iexact S0
      isplitl [S1]; · iexact S1
      isplitl [S2]; · iexact S2
      isplitl [S3]; · iexact S3
      isplitl [S4]; · iexact S4
      iexact Hr
    · ipureintro
      exact step_first (inp m c) _ _ _ _ t.val ht (off1_eq t) (off2_eq t) _
        (congrArg (fun x => over (Val := Elt F) Z (pieces1 x ++ zeroRows)) (inp_x m c t))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists d11; iexact H11

/-- A later grid point of the first layer. -/
theorem body_conv1 (c : Dev nD) (t : Fin cfg0.N) (ht0 : 0 < t.val) (ht : t.val < 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, after0_0, after0_1, after0_2, after0_3, after0_4, after0_5, after0_6, after0_7, after0_8, after0_9, after0_10]
  rw [leaves_lt m c t (by omega), show (dats m 0 c).Φ t.castSucc = Phi (inp m c) c t.val from rfl,
    show (dats m 0 c).Φ t.succ = Phi (inp m c) c (t.val + 1) from rfl,
    show (dats m 0 c).owesAt () t.succ = (dats m 0 c).owesAt () t.castSucc from rfl]
  unfold Phi
  iintro ⟨⟨%Y1, %Y2, %T1, %T2, %Z, %hI, S0, S1, S2, S3, S4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_conv1 c Set.univ (grid0.coords t) _ _ _ _ _ _ _ _ _ _ _ _ _ _ _ _ _ _ _ _ _ _ _ _ _ _ _ _ _ _ _ _ _ _
    (fun h => by have := (eq0_iff t).1 h; omega) ((ne0_iff t).2 (by omega)) ((cond2_iff t).2 ht) (fun h => by have := (cond5_iff t).1 h; omega) (fun h => by have := (cond8_iff t).1 h; omega)
    (iblk m c 0 t) (iblk m c 1 t) (iblk m c 4 t) Y1 T1 Z _)
  isplitl [H0]; · iexact H0
  isplitl [H1]; · iexact H1
  isplitl [H4]; · iexact H4
  isplitl [S0]; · iexact S0
  isplitl [S2]; · iexact S2
  isplitl [S4]; · iexact S4
  iintro ⟨H0, H1, H4, S0, S2, S4⟩
  isplitl [S0 S1 S2 S3 S4 Hr]
  · iexists _, Y2, _, T2, _
    isplitr; swap
    · isplitl [S0]; · iexact S0
      isplitl [S1]; · iexact S1
      isplitl [S2]; · iexact S2
      isplitl [S3]; · iexact S3
      isplitl [S4]; · iexact S4
      iexact Hr
    · ipureintro
      exact step_conv1 (inp m c) _ _ _ _ t.val ht0 ht hI (off1_eq t) (off2_eq t) _
        (congrArg (fun x => over (Val := Elt F) Z (pieces1 x)) (inp_x m c t))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists d11; iexact H11

/-- The second layer's first grid point. -/
theorem body_conv2_first (c : Dev nD) (t : Fin cfg0.N) (ht : t.val = 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, after0_0, after0_1, after0_2, after0_3, after0_4, after0_5, after0_6, after0_7, after0_8, after0_9, after0_10]
  rw [leaves_lt m c t (by omega), show (dats m 0 c).Φ t.castSucc = Phi (inp m c) c t.val from rfl,
    show (dats m 0 c).Φ t.succ = Phi (inp m c) c (t.val + 1) from rfl,
    show (dats m 0 c).owesAt () t.succ = (dats m 0 c).owesAt () t.castSucc from rfl]
  unfold Phi
  iintro ⟨⟨%Y1, %Y2, %T1, %T2, %Z, %hI, S0, S1, S2, S3, S4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_conv2_first c Set.univ (grid0.coords t) _ _ _ _ _ _ _ _ _ _ _ _ _ _ _ _ _ _ _ _ _ _ _ _ _ _ _ _ _ _ _ _ _ _
    (fun h => by have := (eq0_iff t).1 h; omega) (fun h => by have := (cond2_iff t).1 h; omega) ((cond5_iff t).2 (by omega)) ((eq16_iff t).2 ht) (fun h => (ne16_iff t).1 h ht) (fun h => by have := (cond8_iff t).1 h; omega)
    (iblk m c 2 t) (iblk m c 5 t) (iblk m c 6 t) (iblk m c 7 t) Y1 Y2 T1 T2 Z _)
  isplitl [H2]; · iexact H2
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H2, H5, H6, H7, S0, S1, S2, S3, S4⟩
  isplitl [S0 S1 S2 S3 S4 Hr]
  · iexists Y1, _, T1, _, _
    isplitr; swap
    · isplitl [S0]; · iexact S0
      isplitl [S1]; · iexact S1
      isplitl [S2]; · iexact S2
      isplitl [S3]; · iexact S3
      isplitl [S4]; · iexact S4
      iexact Hr
    · ipureintro
      exact step_conv2_first (inp m c) _ _ _ _ _ t.val ht hI (off4_eq t (by omega)) (off5_eq t (by omega))
        (ld_blk Y1 _ _ ⟨t.val - 16, by omega⟩ (off3_eq t (by omega))) _ rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists d11; iexact H11

/-- A later grid point of the second layer. -/
theorem body_conv2 (c : Dev nD) (t : Fin cfg0.N) (ht0 : 16 < t.val) (ht : t.val < 32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, after0_0, after0_1, after0_2, after0_3, after0_4, after0_5, after0_6, after0_7, after0_8, after0_9, after0_10]
  rw [leaves_lt m c t (by omega), show (dats m 0 c).Φ t.castSucc = Phi (inp m c) c t.val from rfl,
    show (dats m 0 c).Φ t.succ = Phi (inp m c) c (t.val + 1) from rfl,
    show (dats m 0 c).owesAt () t.succ = (dats m 0 c).owesAt () t.castSucc from rfl]
  unfold Phi
  iintro ⟨⟨%Y1, %Y2, %T1, %T2, %Z, %hI, S0, S1, S2, S3, S4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_conv2 c Set.univ (grid0.coords t) _ _ _ _ _ _ _ _ _ _ _ _ _ _ _ _ _ _ _ _ _ _ _ _ _ _ _ _ _ _ _ _ _ _
    (fun h => by have := (eq0_iff t).1 h; omega) (fun h => by have := (cond2_iff t).1 h; omega) ((cond5_iff t).2 (by omega)) (fun h => by have := (eq16_iff t).1 h; omega) ((ne16_iff t).2 (by omega)) (fun h => by have := (cond8_iff t).1 h; omega)
    (iblk m c 2 t) (iblk m c 5 t) (iblk m c 6 t) (iblk m c 7 t) Y1 Y2 T1 T2 Z _)
  isplitl [H2]; · iexact H2
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H2, H5, H6, H7, S0, S1, S2, S3, S4⟩
  isplitl [S0 S1 S2 S3 S4 Hr]
  · iexists Y1, _, T1, _, _
    isplitr; swap
    · isplitl [S0]; · iexact S0
      isplitl [S1]; · iexact S1
      isplitl [S2]; · iexact S2
      isplitl [S3]; · iexact S3
      isplitl [S4]; · iexact S4
      iexact Hr
    · ipureintro
      exact step_conv2 (inp m c) _ _ _ _ _ t.val ht0 ht hI (off4_eq t (by omega)) (off5_eq t (by omega))
        (ld_blk Y1 _ _ ⟨t.val - 16, by omega⟩ (off3_eq t (by omega))) _ rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists d11; iexact H11

/-- A grid point of the third layer. -/
theorem body_conv3 (c : Dev nD) (t : Fin cfg0.N) (ht : 32 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, after0_0, after0_1, after0_2, after0_3, after0_4, after0_5, after0_6, after0_7, after0_8, after0_9, after0_10]
  rw [leaves_ge m c t (by omega), show (dats m 0 c).Φ t.castSucc = Phi (inp m c) c t.val from rfl,
    show (dats m 0 c).Φ t.succ = Phi (inp m c) c (t.val + 1) from rfl,
    show (dats m 0 c).owesAt () t.succ = (dats m 0 c).owesAt () t.castSucc from rfl]
  unfold Phi
  iintro ⟨⟨%Y1, %Y2, %T1, %T2, %Z, %hI, S0, S1, S2, S3, S4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_conv3 c Set.univ (grid0.coords t) _ _ _ _ _ _ _ _ _ _ _ _ _ _ _ _ _ _ _ _ _ _ _ _ _ _ _ _ _ _ _ _ _ _
    (fun h => by have := (eq0_iff t).1 h; omega) (fun h => by have := (cond2_iff t).1 h; omega) (fun h => by have := (cond5_iff t).1 h; omega) ((cond8_iff t).2 ht)
    (iblk m c 3 t) (iblk m c 8 t) (iblk m c 9 t) (iblk m c 10 t) ((dats m 0 c).before 11 t d11) Y2 T2 Z _)
  isplitl [H3]; · iexact H3
  isplitl [H8]; · iexact H8
  isplitl [H9]; · iexact H9
  isplitl [H10]; · iexact H10
  isplitl [H11]; · iexact H11
  isplitl [S1]; · iexact S1
  isplitl [S3]; · iexact S3
  isplitl [S4]; · iexact S4
  iintro ⟨H3, H8, H9, H10, H11, S1, S3, S4⟩
  isplitl [S0 S1 S2 S3 S4 Hr]
  · iexists Y1, Y2, T1, T2, _
    isplitr; swap
    · isplitl [S0]; · iexact S0
      isplitl [S1]; · iexact S1
      isplitl [S2]; · iexact S2
      isplitl [S3]; · iexact S3
      isplitl [S4]; · iexact S4
      iexact Hr
    · ipureintro
      exact step_conv3 (inp m c) _ t.val ht t.isLt hI _ rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  rw [← out_conv3 (inp m c) (View.ld Y2 (Rect.unit (s := S16x32x32x256) (k0_off6 (grid0.coords t)) S1x32x32x256.size (k0_off6_inb _ ((cond8_iff t).2 ht)))) t.val ht (t.isLt) hI (ld_blk Y2 _ (k0_off6_inb _ ((cond8_iff t).2 ht)) ⟨t.val - 32, by have : t.val < 48 := t.isLt; omega⟩ (off6_eq t ht))
    (over (Val := Elt F) Z (pieces3 (row0 T2) (row1 T2) (inp m c).g2 (inp m c).be2 (View.ld Y2 (Rect.unit (s := S16x32x32x256) (k0_off6 (grid0.coords t)) S1x32x32x256.size (k0_off6_inb _ ((cond8_iff t).2 ht)))))) rfl ((dats m 0 c).before 11 t d11)]; iexact H11

/-- The body at any grid point. -/
theorem sound_body (c : Dev nD) (t : Fin cfg0.N) :
    bodyPre m c t ⊢ wp frame (wpE (defs₀ (F := F)) Variants.none c none) Set.univ (bodyAt0 t) (fun _ => bodyPost m c t) := by
  rcases Nat.eq_zero_or_pos t.val with h0 | h0
  · exact body_first m c t h0
  rcases Nat.lt_or_ge t.val 16 with h1 | h1
  · exact body_conv1 m c t h0 h1
  rcases Nat.eq_or_lt_of_le h1 with h2 | h2
  · exact body_conv2_first m c t h2.symm
  rcases Nat.lt_or_ge t.val 32 with h3 | h3
  · exact body_conv2 m c t h2 h3
  · exact body_conv3 m c t h3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The scratch buffers at anything are the invariant before the first grid point, -/
theorem phi_in (c : Dev nD) : Pipeline.ΦA spec0 c ⊢ (dats (F := F) m 0 c).Φ 0 := by
  rw [show (dats (F := F) m 0 c).Φ 0 = Phi (inp m c) c 0 from rfl]
  unfold Pipeline.ΦA Phi
  rw [scopedRest0_eq]
  simp only [owns_whole]
  iintro ⟨⟨⟨%f0, H0⟩, ⟨%f1, H1⟩, ⟨%f2, H2⟩, ⟨%f3, H3⟩, ⟨%f4, H4⟩⟩, Hr⟩
  iexists f0, f1, f2, f3, f4
  isplitr
  · ipureintro
    exact ⟨fun h => by omega, fun b h => by omega, fun n _ h => by omega, fun b h => by omega, fun n _ h => by omega⟩
  isplitl [H0]; · iexact H0
  isplitl [H1]; · iexact H1
  isplitl [H2]; · iexact H2
  isplitl [H3]; · iexact H3
  isplitl [H4]; · iexact H4
  iexact Hr

/-- and the invariant after the last gives them back. -/
theorem phi_out (c : Dev nD) : (dats (F := F) m 0 c).Φ (Fin.last cfg0.N) ⊢ Pipeline.ΦA spec0 c := by
  rw [show (dats (F := F) m 0 c).Φ (Fin.last cfg0.N) = Phi (inp m c) c 48 from rfl]
  unfold Pipeline.ΦA Phi
  rw [scopedRest0_eq]
  simp only [owns_whole]
  iintro ⟨%Y1, %Y2, %T1, %T2, %Z, -, H0, H1, H2, H3, H4, Hr⟩
  isplitr [Hr]
  · isplitl [H0]; · iexists Y1; iexact H0
    isplitl [H1]; · iexists Y2; iexact H1
    isplitl [H2]; · iexists T1; iexact H2
    isplitl [H3]; · iexists T2; iexact H3
    iexists Z; iexact H4
  iexact Hr

set_option backward.isDefEq.respectTransparency.types false in
/-- The launch: every final state has the pipeline's arrays at what the proof data say, the host lines after the region run on
    them, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m) (hQ' := fun _ h => h)

/-- THE RUN of the program: every buffer at its end. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.KernelFrame.lean ====
/-
  The run of the kernel as printed. Its program and the idealized one are the same text, no operation having been rewritten, so
  the one run (`Body.frame_run`, at any values) is the other's at the bit patterns.
-/
module

public import proofs.«01_k».proof.Proof.Body
public import proofs.«01_k».proof.Proof.Gen.Kernel
public import Idealize.ShloMosaic.PureOps.BitExact
import all proofs.«01_k».proof.Kernel
import all proofs.«01_k».proof.KernelIdeal

@[expose] public section

namespace Cert.Kernel.Body

open Idealize.ShloMosaic Idealize.SL.Sem Cert.Kernel

variable {F : FTy → Type} [FloatOps F]

/-- The two programs have one body. -/
theorem body_eq : cc0__body (F := F) = Cert.KernelIdeal.cc0__body (F := F) := rfl

/-- The two programs have the same definitions. -/
theorem defs₀_eq : defs₀ (F := F) = Cert.KernelIdeal.defs₀ (F := F) := by
  unfold defs₀ Cert.KernelIdeal.defs₀
  refine congrArg (Defs.onTc (Λ := Λ₀)) ?_
  funext l x
  match l, x with
  | 0, (t, s) => exact rfl

/-- The two programs have the same pipeline. -/
theorem pcfgs_eq : pcfgs (F := F) = Cert.KernelIdeal.pcfgs (F := F) := rfl

/-- The two programs have the same definitions, the pipeline included. -/
theorem defs_eq : defs (F := F) = Cert.KernelIdeal.defs (F := F) :=
  congrArg (Pipeline.defs (pcfgs (F := F))) defs₀_eq

/-- The two programs have one host program. -/
theorem main_eq : main (F := F) = Cert.KernelIdeal.main (F := F) := rfl

/-- The argument arrays end unchanged and every counter at zero. -/
theorem frame_run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  rw [defs_eq, main_eq]
  exact Cert.KernelIdeal.Body.frame_run m ρ

end Cert.Kernel.Body
-- ==== Proof.Pre.lean ====
/-
  The precondition, read back: the two scales are real numbers.
-/
module

public import proofs.«01_k».proof.Defs
public import Idealize.ShloMosaic.Lib.Pipeline.ValueKit
public import Idealize.ShloMosaic.Lib.ReduceAll

@[expose] public section

noncomputable section

namespace Cert.Pre_finite_scales

open Idealize.ShloMosaic

/-- The facts the predicate's operations ask for. -/
theorem preFacts : Facts where
  bcast_S_S256 := by decide
  reducesTo_S256_S_d0 := by decide
  h_S_ := by decide

/-- An extended real whose absolute value lies below the word of infinity is a real number. -/
theorem real_of_lt (x : EReal) (h : Ideal.cmp .olt (max x (-x)) (Ideal.ofBits .f32 0x7F800000#32) = 1#1) : ∃ γ : ℝ, x = (γ : EReal) := by
  have top : Ideal.ofBits .f32 0x7F800000#32 = ⊤ := by simp [Ideal.ofBits, Ideal.ieee]
  rw [top] at h
  induction x using EReal.rec with
  | coe γ => exact ⟨γ, rfl⟩
  | bot => simp [Ideal.cmp] at h
  | top => simp [Ideal.cmp] at h

/-- A conjunction over a whole array that is true holds of each of its elements. -/
theorem real_of_all (hf : Facts) (x : FVec Ideal S256 .f32)
    (h : Host.reduce IntOp.andi (cmpf .olt (Host.absf x) (broadcastInDim S256 ![] hf.bcast_S_S256 (constant S_ .f32 0x7F800000#32)))
      (constantI S_ 1 1#1) hf.reducesTo_S256_S_d0 hf.h_S_ ix0 = 1#1) (o : Fin 256) : ∃ γ : ℝ, x (ix1 o) = (γ : EReal) :=
  real_of_lt _ (Host.reduce_andi_all _ _ _ _ _ h (ix1 o))

/-- The precondition says that both arrays of scales hold real numbers. -/
theorem real_of_pre [hf : Facts] {a0 a1 a2 a3 a4 a5 a6 a7 a8 a9 a10}
    (h : fn (F := Ideal) a0 a1 a2 a3 a4 a5 a6 a7 a8 a9 a10 = fun _ => 1#1) :
    (∀ o : Fin 256, ∃ γ : ℝ, a3 (ix1 o) = (γ : EReal)) ∧ ∀ o : Fin 256, ∃ γ : ℝ, a7 (ix1 o) = (γ : EReal) := by
  have e := congrFun h ix0
  obtain ⟨e3, e7⟩ := IntOp.andi_eq_one.1 e
  exact ⟨real_of_all hf a3 e3, real_of_all hf a7 e7⟩

end Cert.Pre_finite_scales
-- ==== Proof.Maths.lean ====
/-
  The arithmetic of the claim, over the extended reals and without any program: a padded 3 x 3 convolution, batch
  normalisation written with the variance as a mean of squares minus a squared mean, and the same written as a mean of
  squared deviations. The two normalisations agree whenever the scale is finite.
-/
module

public import Idealize.ShloMosaic.Lib.Pointwise
public import Idealize.ShloMosaic.Lib.IdealHost

@[expose] public section

noncomputable section

namespace Cert.Maths

open Idealize.ShloMosaic

/-! ## Sums of extended reals with an infinite member -/

section Sums

variable {ι : Type} [Fintype ι]

/-- A sum with a member -inf is -inf. -/
theorem sum_eq_bot (y : ι → EReal) (i : ι) (h : y i = ⊥) : ∑ k, y k = ⊥ := by
  classical
  rw [← Finset.add_sum_erase _ _ (Finset.mem_univ i), h, EReal.bot_add]

/-- A sum without a member -inf is not -inf. -/
theorem sum_ne_bot (s : Finset ι) (y : ι → EReal) (h : ∀ i, y i ≠ ⊥) : ∑ k ∈ s, y k ≠ ⊥ := by
  classical
  induction s using Finset.induction_on with
  | empty => simp
  | insert a s ha ih =>
    rw [Finset.sum_insert ha]
    exact fun e => (EReal.add_eq_bot_iff.mp e).elim (h a) ih

/-- A sum with a member +inf and none -inf is +inf. -/
theorem sum_eq_top (y : ι → EReal) (i : ι) (hi : y i = ⊤) (h : ∀ i, y i ≠ ⊥) : ∑ k, y k = ⊤ := by
  classical
  rw [← Finset.add_sum_erase _ _ (Finset.mem_univ i), hi]
  exact EReal.top_add_of_ne_bot (sum_ne_bot _ y h)

/-- A sum of real numbers is their real sum. -/
theorem sum_coe (r : ι → ℝ) : ∑ k, (r k : EReal) = ((∑ k, r k : ℝ) : EReal) := by
  classical
  have h : ∀ s : Finset ι, ∑ k ∈ s, (r k : EReal) = ((∑ k ∈ s, r k : ℝ) : EReal) := by
    intro s
    induction s using Finset.induction_on with
    | empty => simp
    | insert a s ha ih => rw [Finset.sum_insert ha, Finset.sum_insert ha, ih, EReal.coe_add]
  exact h _

end Sums

/-- Division of real numbers. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- +inf over a positive number. -/
theorem top_div_pos (b : ℝ) (hb : 0 < b) : Ideal.div ⊤ (b : EReal) = ⊤ := by
  unfold Ideal.div
  rw [if_neg (by exact_mod_cast hb.ne'), ← EReal.coe_inv]
  exact EReal.top_mul_of_pos (by exact_mod_cast inv_pos.mpr hb)

/-- -inf over a positive number. -/
theorem bot_div_pos (b : ℝ) (hb : 0 < b) : Ideal.div ⊥ (b : EReal) = ⊥ := by
  unfold Ideal.div
  rw [if_neg (by exact_mod_cast hb.ne'), ← EReal.coe_inv]
  exact EReal.bot_mul_of_pos (by exact_mod_cast inv_pos.mpr hb)

/-- A quotient by +inf is 0. -/
theorem div_top (x : EReal) : Ideal.div x ⊤ = 0 := by
  unfold Ideal.div; rw [if_neg (by simp), EReal.inv_top, mul_zero]

/-- A quotient by -inf is 0. -/
theorem div_bot (x : EReal) : Ideal.div x ⊥ = 0 := by
  unfold Ideal.div; rw [if_neg (by simp), EReal.inv_bot, mul_zero]

/-! ## Batch normalisation, two ways -/

section Norm

variable {ι : Type} [Fintype ι]

/-- The mean. -/
def mean (N : EReal) (y : ι → EReal) : EReal := Ideal.div (∑ k, y k) N

/-- As a slope and an offset, from the sum `S` of the values and the sum `Q` of their squares. -/
def affine (N eps g be S Q v : EReal) : EReal :=
  v * Ideal.div g (Ideal.sqrt (Ideal.div Q N - Ideal.div S N * Ideal.div S N + eps))
    + (be - Ideal.div S N * Ideal.div g (Ideal.sqrt (Ideal.div Q N - Ideal.div S N * Ideal.div S N + eps)))

/-- The deviation from the mean over the standard deviation, scaled and shifted. -/
def normal (N eps g be : EReal) (y : ι → EReal) (v : EReal) : EReal :=
  Ideal.div (v - mean N y)
      (Ideal.sqrt (Ideal.div (∑ k, (y k - mean N y) * (y k - mean N y)) N + eps)) * g + be

/-- The mean of the squares minus the square of the mean is the mean of the squared deviations. -/
theorem var_eq (r : ι → ℝ) (n : ℝ) (hn : n = Fintype.card ι) (h0 : 0 < n) :
    (∑ k, r k * r k) / n - (∑ k, r k) / n * ((∑ k, r k) / n)
      = (∑ k, (r k - (∑ k, r k) / n) * (r k - (∑ k, r k) / n)) / n := by
  set m := (∑ k, r k) / n with hm
  have hs : ∑ k, r k = m * n := by rw [hm]; field_simp
  have e : ∑ k, (r k - m) * (r k - m) = ∑ k, r k * r k - 2 * m * ∑ k, r k + n * (m * m) := by
    have : ∀ k, (r k - m) * (r k - m) = r k * r k - 2 * m * r k + m * m := fun k => by ring
    simp only [this, Finset.sum_add_distrib, Finset.sum_sub_distrib, ← Finset.mul_sum, Finset.sum_const, Finset.card_univ,
      nsmul_eq_mul, hn]
    ring
  rw [e, hs]
  field_simp
  ring

/-- A real difference may be taken before or after adding the shift. -/
theorem add_sub_shift (a b : ℝ) (be : EReal) : (a : EReal) + (be - (b : EReal)) = ((a - b : ℝ) : EReal) + be := by
  induction be using EReal.rec with
  | bot => rw [EReal.bot_sub, EReal.add_bot, EReal.add_bot]
  | top => rw [EReal.top_sub_coe, EReal.coe_add_top, EReal.coe_add_top]
  | coe c => rw [← EReal.coe_sub, ← EReal.coe_add, ← EReal.coe_add]; congr 1; ring

/-- The two normalisations agree at every member of the family normalised. -/
theorem affine_eq_normal (n e γ : ℝ) (hn : n = Fintype.card ι) (h0 : 0 < n) (he : 0 < e) (be : EReal) (y : ι → EReal) (i : ι) :
    affine n e γ be (∑ k, y k) (∑ k, y k * y k) (y i) = normal n e γ be y (y i) := by
  by_cases hr : ∀ k, y k ≠ ⊥ ∧ y k ≠ ⊤
  · -- every value is a real number
    obtain ⟨r, rfl⟩ : ∃ r : ι → ℝ, y = fun k => (r k : EReal) :=
      ⟨fun k => (y k).toReal, funext fun k => (EReal.coe_toReal (hr k).2 (hr k).1).symm⟩
    have hv := var_eq r n hn h0
    have hq : 0 ≤ (∑ k, (r k - (∑ k, r k) / n) * (r k - (∑ k, r k) / n)) / n :=
      div_nonneg (Finset.sum_nonneg fun k _ => mul_self_nonneg _) h0.le
    unfold affine normal mean
    simp only [← EReal.coe_mul, sum_coe, div_real _ _ h0.ne', ← EReal.coe_sub, ← EReal.coe_add]
    rw [hv]
    set q := (∑ k, (r k - (∑ k, r k) / n) * (r k - (∑ k, r k) / n)) / n with hqd
    have hsq : Ideal.sqrt ((q + e : ℝ) : EReal) = (Real.sqrt (q + e) : EReal) := by
      show (if q + e < 0 then (⊥ : EReal) else _) = _
      rw [if_neg (by linarith)]
    have hs0 : Real.sqrt (q + e) ≠ 0 := (Real.sqrt_pos.mpr (by linarith)).ne'
    rw [hsq, div_real _ _ hs0, div_real _ _ hs0, ← EReal.coe_mul, ← EReal.coe_mul, ← EReal.coe_mul, add_sub_shift]
    congr 2
    field_simp
  · -- some value is infinite: the mean is infinite, and both sides are the shift
    have hsqr : ∀ x : EReal, x = ⊥ ∨ x = ⊤ → x * x = ⊤ := by
      rintro x (rfl | rfl)
      · exact EReal.bot_mul_bot
      · exact EReal.top_mul_top
    have hnb : ∀ x : EReal, x * x ≠ ⊥ := by
      intro x
      induction x using EReal.rec with
      | bot => rw [EReal.bot_mul_bot]; decide
      | top => rw [EReal.top_mul_top]; decide
      | coe c => rw [← EReal.coe_mul]; exact EReal.coe_ne_bot _
    obtain ⟨j, hj⟩ : ∃ j, y j = ⊥ ∨ y j = ⊤ := by
      by_contra hc
      exact hr fun k => ⟨fun h => hc ⟨k, .inl h⟩, fun h => hc ⟨k, .inr h⟩⟩
    have hQ : ∑ k, y k * y k = ⊤ := sum_eq_top _ j (hsqr _ hj) fun k => hnb _
    have hm : mean n y = ⊥ ∨ mean n y = ⊤ := by
      unfold mean
      by_cases hb : ∃ k, y k = ⊥
      · obtain ⟨k, hk⟩ := hb
        left; rw [sum_eq_bot y k hk, bot_div_pos n h0]
      · have hb' : ∀ k, y k ≠ ⊥ := fun k hk => hb ⟨k, hk⟩
        right; rw [sum_eq_top y j (hj.resolve_left (hb' j)) hb', top_div_pos n h0]
    have hd : ∀ k, y k - mean n y = ⊥ ∨ y k - mean n y = ⊤ := by
      intro k
      by_cases hb : ∃ k, y k = ⊥
      · obtain ⟨k', hk'⟩ := hb
        have hmb : mean n y = ⊥ := by unfold mean; rw [sum_eq_bot y k' hk', bot_div_pos n h0]
        rw [hmb, sub_eq_add_neg, EReal.neg_bot]
        by_cases hk : y k = ⊥
        · left; rw [hk, EReal.bot_add]
        · right; exact EReal.add_top_of_ne_bot hk
      · have hb' : ∀ k, y k ≠ ⊥ := fun k hk => hb ⟨k, hk⟩
        have hmt : mean n y = ⊤ := by
          unfold mean; rw [sum_eq_top y j (hj.resolve_left (hb' j)) hb', top_div_pos n h0]
        left; rw [hmt, sub_eq_add_neg, EReal.neg_top, EReal.add_bot]
    have hV : ∑ k, (y k - mean n y) * (y k - mean n y) = ⊤ := sum_eq_top _ j (hsqr _ (hd j)) fun k => hnb _
    have hA : affine n e γ be (∑ k, y k) (∑ k, y k * y k) (y i) = be := by
      unfold affine
      change _ * Ideal.div _ (Ideal.sqrt (_ - mean n y * mean n y + _)) + (be - mean n y * Ideal.div _ (Ideal.sqrt (_ - mean n y * mean n y + _))) = _
      rw [hsqr _ hm, hQ, top_div_pos n h0, sub_eq_add_neg, EReal.neg_top, EReal.add_bot, EReal.bot_add]
      rw [show Ideal.sqrt ⊥ = ⊥ from rfl, div_bot, mul_zero, mul_zero, sub_zero, zero_add]
    have hB : normal n e γ be y (y i) = be := by
      unfold normal
      rw [hV, top_div_pos n h0, EReal.top_add_of_ne_bot (EReal.coe_ne_bot _)]
      rw [show Ideal.sqrt ⊤ = ⊤ from rfl, div_top, zero_mul, zero_add]
    rw [hA, hB]

end Norm

/-! ## Half blocks and taps: the ways the sums are split -/

section Split

variable {M : Type} [AddCommMonoid M]

/-- A sum over an image, as the sums over its two halves of 512 positions read row by row. -/
theorem sum_halves (f : Fin 32 → Fin 32 → M) :
    (0 + ∑ r : Fin 512, f ⟨r.val / 32, by omega⟩ ⟨r.val % 32, by omega⟩)
        + ∑ r : Fin 512, f ⟨16 + r.val / 32, by omega⟩ ⟨r.val % 32, by omega⟩ = ∑ h, ∑ w, f h w := by
  rw [zero_add, Fin.sum_univ_two_halves 16 16 rfl (fun h => ∑ w, f h w), Fin.sum_univ_tiles 16 32 rfl, Fin.sum_univ_tiles 16 32 rfl]
  congr 1 <;>
  · refine Finset.sum_congr rfl fun a _ => Finset.sum_congr rfl fun b _ => ?_
    have := a.isLt
    have := b.isLt
    congr 1 <;> (apply Fin.ext; simp only; omega)

/-- Three taps of each of three rows, added from nothing one by one. -/
theorem sum_taps (d : Fin 3 → Fin 3 → M) :
    0 + d 0 0 + d 0 1 + d 0 2 + d 1 0 + d 1 1 + d 1 2 + d 2 0 + d 2 1 + d 2 2 = ∑ i, ∑ j, d i j := by
  simp only [Fin.sum_univ_three, zero_add, add_assoc]

/-- A sum over images, rows and columns, one after another or at once. -/
theorem sum_images (f : Fin 16 → Fin 32 → Fin 32 → M) :
    ∑ i : Fin 16 × Fin 32 × Fin 32, f i.1 i.2.1 i.2.2 = ∑ n, ∑ h, ∑ w, f n h w := by
  rw [Fintype.sum_prod_type]
  exact Finset.sum_congr rfl fun n _ => Fintype.sum_prod_type _

end Split

/-! ## The layers -/

/-- An image of 32 x 32 with a border of zeros, at row `h` and column `w` counted from the border. -/
def padded (x : Fin 32 → Fin 32 → EReal) (h w : ℕ) : EReal :=
  if H : (1 ≤ h ∧ h < 33) ∧ (1 ≤ w ∧ w < 33) then x ⟨h - 1, by omega⟩ ⟨w - 1, by omega⟩ else 0

/-- A 3 x 3 convolution of an image with `C` channels. -/
def conv {C : ℕ} (x : Fin 32 → Fin 32 → Fin C → EReal) (k : Fin C → Fin 3 → Fin 3 → EReal) (h w : Fin 32) : EReal :=
  ∑ dy : Fin 3, ∑ dx : Fin 3, ∑ c : Fin C, padded (fun a b => x a b c) (h.val + dy.val) (w.val + dx.val) * k c dy dx

/-- Sixteen images with `C` channels. -/
abbrev Img (C : ℕ) : Type := Fin 16 → Fin 32 → Fin 32 → Fin C → EReal

/-- A convolution layer with bias. -/
def convLayer {C O : ℕ} (k : Fin O → Fin C → Fin 3 → Fin 3 → EReal) (b : Fin O → EReal) (x : Img C) : Img O :=
  fun n h w o => conv (x n) (k o) h w + b o

/-- The number of values per channel and the constant added to the variance. -/
abbrev cnt : EReal := Ideal.ofBits .f32 0x46800000#32
/-- The constant added to the variance. -/
abbrev eps : EReal := Ideal.ofBits .f32 0x3727C5AC#32

/-- There are 16384 values per channel. -/
theorem cnt_eq : cnt = ((16384 : ℝ) : EReal) := by
  simp [cnt, Ideal.ofBits, Ideal.ieee, -EReal.coe_mul]; norm_num

/-- The constant added to the variance is a positive real number. -/
theorem eps_eq : ∃ e : ℝ, 0 < e ∧ eps = (e : EReal) := by
  refine ⟨(2 ^ 23 + 2606508 : ℕ) * (2 : ℝ) ^ (-40 : Int), by positivity, ?_⟩
  simp [eps, Ideal.ofBits, Ideal.ieee, -EReal.coe_mul]

/-- Batch normalisation over the sixteen images, channel by channel, then the negative part dropped. -/
def normLayer {C : ℕ} (g be : Fin C → EReal) (y : Img C) : Img C :=
  fun n h w o => max (normal cnt eps (g o) (be o) (fun i : Fin 16 × Fin 32 × Fin 32 => y i.1 i.2.1 i.2.2 o) (y n h w o)) 0

/-- The layer as a slope and an offset computed from the channel's two sums. -/
theorem affine_eq_normLayer {C : ℕ} (g be : Fin C → EReal) (y : Img C) (n : Fin 16) (h w : Fin 32) (o : Fin C)
    (hg : ∃ γ : ℝ, g o = (γ : EReal)) :
    max (affine cnt eps (g o) (be o) (∑ n, ∑ h, ∑ w, y n h w o) (∑ n, ∑ h, ∑ w, y n h w o * y n h w o) (y n h w o)) 0
      = normLayer g be y n h w o := by
  obtain ⟨γ, hγ⟩ := hg
  obtain ⟨e, he, heq⟩ := eps_eq
  unfold normLayer
  rw [hγ, heq, cnt_eq, ← sum_images fun n h w => y n h w o, ← sum_images fun n h w => y n h w o * y n h w o]
  rw [← affine_eq_normal (16384 : ℝ) e γ (by simp) (by norm_num) he (be o) (fun i : Fin 16 × Fin 32 × Fin 32 => y i.1 i.2.1 i.2.2 o) (n, h, w)]

end Cert.Maths

end
-- ==== Proof.Slab.lean ====
/-
  The entries of the kernel's slab over the extended reals: row `h`, column `w` and lane `d C + c` of it hold channel `c` of the
  zero-bordered image at row `h` and column `w + d`.
-/
module

public import proofs.«01_k».proof.Proof.State
public import proofs.«01_k».proof.Proof.Maths
public import Idealize.ShloMosaic.Lib.Pointwise

@[expose] public section

set_option maxRecDepth 16384

noncomputable section

namespace Cert.KernelIdeal.Value

open Cert.KernelIdeal Cert.KernelIdeal.Gen Cert.KernelIdeal.Spec
open Idealize.ShloMosaic
open Cert.Maths

/-- Contents of a slab with nothing but its zero rows. -/
theorem zeroRows_at (y : S34x32x1152.Idx) : over (Val := Elt Ideal) z17 zeroRows y = (0 : EReal) := by
  have hz : ∀ y : S34x32x1152.Idx, (z17 (F := Ideal)) y = (0 : EReal) := fun y => by pointwise [z17]
  rw [over_of_eq]
  · exact hz y
  · intro p hp x
    unfold zeroRows at hp
    simp only [List.mem_cons, List.not_mem_nil, or_false] at hp
    rcases hp with rfl | rfl
    · refine Eq.trans ?_ (hz _).symm
      show k0_pay3 (F := Ideal) x = _
      pointwise [k0_pay3, k0_pay1]
    · refine Eq.trans ?_ (hz _).symm
      show k0_pay2 (F := Ideal) x = _
      pointwise [k0_pay2, k0_pay1]

/-- An entry of a copy of `C` lanes stored at lane `o`. -/
theorem copy_emb (C o : ℕ) (inb) (h : Fin 34) (w : Fin 32) (c : Fin C) (h1 : 1 ≤ h.val) (h2 : h.val < 33) (k : Fin 1152)
    (hk : k.val = o + c.val) :
    (Rect.unit (s := S34x32x1152) ![1, 0, o] ![32, 32, C] inb).emb (ix3 (⟨h.val - 1, by omega⟩ : Fin 32) w c) = (ix3 h w k : S34x32x1152.Idx) := by
  refine funext fun a => Fin.ext ?_
  refine (Rect.emb_apply _ _ a).trans ?_
  fin_cases a <;> simp [Rect.unit, ix3]
  · omega
  · omega

/-- A column outside the piece is not written by it. -/
theorem copy_miss (C o : ℕ) (inb) (h : Fin 34) (w : Fin 32) (k : Fin 1152) (hk : k.val < o) :
    (ix3 h w k : S34x32x1152.Idx) ∉ (Rect.unit (s := S34x32x1152) ![1, 0, o] ![32, 32, C] inb).set :=
  Rect.not_mem_set_of_axis _ _ 2 o C rfl rfl rfl (Or.inl hk)

/-- The slab made of three column-shifted copies of an image. -/
theorem copies_at (C o1 o2 : ℕ) (ho1 : o1 = C) (ho2 : o2 = 2 * C) (hC : 3 * C ≤ 1152) (i0 i1 i2)
    (A0 A1 A2 : FVec Ideal ⟨3, ![32, 32, C]⟩ .bf16) (img : Fin 32 → Fin 32 → Fin C → EReal)
    (h0 : ∀ (a w : Fin 32) (c : Fin C), A0 (ix3 a w c) = if H : w.val < 1 then (0 : EReal) else img a ⟨w.val - 1, by omega⟩ c)
    (h1 : ∀ (a w : Fin 32) (c : Fin C), A1 (ix3 a w c) = img a w c)
    (h2 : ∀ (a w : Fin 32) (c : Fin C), A2 (ix3 a w c) = if H : w.val < 31 then img a ⟨1 + w.val, by omega⟩ c else (0 : EReal))
    (hI : Inner (F := Ideal) [⟨Rect.unit (s := S34x32x1152) ![1, 0, o2] ![32, 32, C] i2, A2⟩,
        ⟨Rect.unit (s := S34x32x1152) ![1, 0, o1] ![32, 32, C] i1, A1⟩, ⟨Rect.unit (s := S34x32x1152) ![1, 0, 0] ![32, 32, C] i0, A0⟩])
    (h : Fin 34) (w : Fin 32) (d : Fin 3) (c : Fin C) :
    over (Val := Elt Ideal) z17 ([⟨Rect.unit (s := S34x32x1152) ![1, 0, o2] ![32, 32, C] i2, A2⟩,
        ⟨Rect.unit (s := S34x32x1152) ![1, 0, o1] ![32, 32, C] i1, A1⟩, ⟨Rect.unit (s := S34x32x1152) ![1, 0, 0] ![32, 32, C] i0, A0⟩] ++ zeroRows)
      (ix3 h w ⟨d.val * C + c.val, by have := d.isLt; have := c.isLt; have : d.val * C ≤ 2 * C := Nat.mul_le_mul_right C (by omega); omega⟩)
      = padded (fun a b => img a b c) h.val (w.val + d.val) := by
  have hc := c.isLt
  have hw := w.isLt
  rw [over_append]
  by_cases hb : h.val < 1 ∨ 33 ≤ h.val
  · rw [over_inner _ _ hI _ hb, zeroRows_at]
    unfold padded
    rw [dif_neg (by omega)]
  · have hb1 : 1 ≤ h.val := by omega
    have hb2 : h.val < 33 := by omega
    generalize hX : over (Val := Elt Ideal) z17 zeroRows = X
    clear hX
    unfold padded
    obtain ⟨d, hd⟩ := d
    have hd' : d = 0 ∨ d = 1 ∨ d = 2 := by omega
    rcases hd' with rfl | rfl | rfl
    · rw [over_cons_of_not_mem, over_cons_of_not_mem, ← copy_emb C 0 i0 h w c hb1 hb2 _ (by simp)]
      · refine (over_cons_emb _ _ _ _ _).trans ?_
        refine (h0 _ _ _).trans ?_
        by_cases hw1 : w.val < 1
        · rw [dif_pos hw1, dif_neg (by simp only; omega)]
        · rw [dif_neg hw1, dif_pos (by simp only; omega)]
          rfl
      · exact copy_miss C o1 i1 h w _ (by simp only; omega)
      · exact copy_miss C o2 i2 h w _ (by simp only; omega)
    · rw [over_cons_of_not_mem, ← copy_emb C o1 i1 h w c hb1 hb2 _ (by simp only; omega)]
      · refine (over_cons_emb _ _ _ _ _).trans ?_
        refine (h1 _ _ _).trans ?_
        rw [dif_pos (by simp only; omega)]
        rfl
      · exact copy_miss C o2 i2 h w _ (by simp only; omega)
    · rw [← copy_emb C o2 i2 h w c hb1 hb2 _ (by simp only; omega)]
      refine (over_cons_emb _ _ _ _ _).trans ?_
      refine (h2 _ _ _).trans ?_
      by_cases hw1 : w.val < 31
      · rw [dif_pos hw1, dif_pos (by simp only; omega)]
        exact congrArg (fun b => img _ b c) (Fin.ext (by simp only; omega))
      · rw [dif_neg hw1, dif_neg (by simp only; omega)]

/-! ## The three layers' slabs -/

/-- First layer: the slab of the input block `x`. -/
theorem slab1_at (I : Inp Ideal) (n : ℕ) (h : Fin 34) (w : Fin 32) (d : Fin 3) (c : Fin 384) :
    slab1 I n (ix3 h w ⟨d.val * 384 + c.val, by omega⟩) = padded (fun a b => I.x n (ix4 0 a b c)) h.val (w.val + d.val) := by
  unfold slab1
  refine copies_at 384 384 768 rfl rfl (by norm_num) inb_S34x32x1152_S32x32x384_1_0_0 inb_S34x32x1152_S32x32x384_1_0_384
    inb_S34x32x1152_S32x32x384_1_0_768 (k0_pay15 (I.x n)) (k0_pay16 (I.x n)) (k0_pay17 (I.x n)) (fun a b c => I.x n (ix4 0 a b c)) ?_ ?_ ?_
    (inner1 (I.x n)) h w d c
  · intro a w c
    pointwise [k0_pay15, k0_pay13, k0_pay14]
  · intro a w c
    pointwise [k0_pay16, k0_pay13]
  · intro a w c
    pointwise [k0_pay17, k0_pay13, k0_pay14]

/-- The normalised image a slab of the later layers is made of. -/
def act (s0 s1 g be : Vec Ideal S1x256 .f32) (y : Vec Ideal S1x32x32x256 .bf16) (a b : Fin 32) (c : Fin 256) : EReal :=
  max (affine cnt eps (g (ix2 0 c)) (be (ix2 0 c)) (s0 (ix2 0 c)) (s1 (ix2 0 c)) (y (ix4 0 a b c))) 0

/-- The normalised value that the second layer stores. -/
theorem act34 (s0 s1 g be : Vec Ideal S1x256 .f32) (y : Vec Ideal S1x32x32x256 .bf16) (a b : Fin 32) (c : Fin 256) :
    k0_pay34 s0 s1 g be y (ix3 a b c) = act s0 s1 g be y a b c := by
  unfold act affine
  pointwise [k0_pay34]

/-- The normalised value that the third layer stores. -/
theorem act48 (s0 s1 g be : Vec Ideal S1x256 .f32) (y : Vec Ideal S1x32x32x256 .bf16) (a b : Fin 32) (c : Fin 256) :
    k0_pay48 s0 s1 g be y (ix3 a b c) = act s0 s1 g be y a b c := by
  unfold act affine
  pointwise [k0_pay48]

/-- Second layer. -/
theorem pieces2_at (s0 s1 g be : Vec Ideal S1x256 .f32) (y : Vec Ideal S1x32x32x256 .bf16) (h : Fin 34) (w : Fin 32) (d : Fin 3) (c : Fin 256) :
    over (Val := Elt Ideal) z17 (pieces2 s0 s1 g be y ++ zeroRows) (ix3 h w ⟨d.val * 256 + c.val, by omega⟩)
      = padded (fun a b => act s0 s1 g be y a b c) h.val (w.val + d.val) := by
  refine copies_at 256 256 512 rfl rfl (by norm_num) inb_S34x32x1152_S32x32x256_1_0_0 inb_S34x32x1152_S32x32x256_1_0_256
    inb_S34x32x1152_S32x32x256_1_0_512 (k0_pay38 (k0_pay36 s0 s1 g be y)) (k0_pay39 (k0_pay34 s0 s1 g be y)) (k0_pay40 (k0_pay37 s0 s1 g be y))
    (act s0 s1 g be y) ?_ ?_ ?_ (inner2 s0 s1 g be y) h w d c
  · intro a w c
    pointwise [k0_pay38, k0_pay36, k0_pay35, act34]
  · intro a w c
    pointwise [k0_pay39, act34]
  · intro a w c
    pointwise [k0_pay40, k0_pay37, k0_pay35, act34]

/-- Third layer. -/
theorem pieces3_at (s0 s1 g be : Vec Ideal S1x256 .f32) (y : Vec Ideal S1x32x32x256 .bf16) (h : Fin 34) (w : Fin 32) (d : Fin 3) (c : Fin 256) :
    over (Val := Elt Ideal) z17 (pieces3 s0 s1 g be y ++ zeroRows) (ix3 h w ⟨d.val * 256 + c.val, by omega⟩)
      = padded (fun a b => act s0 s1 g be y a b c) h.val (w.val + d.val) := by
  refine copies_at 256 256 512 rfl rfl (by norm_num) inb_S34x32x1152_S32x32x256_1_0_0 inb_S34x32x1152_S32x32x256_1_0_256
    inb_S34x32x1152_S32x32x256_1_0_512 (k0_pay52 (k0_pay50 s0 s1 g be y)) (k0_pay53 (k0_pay48 s0 s1 g be y)) (k0_pay54 (k0_pay51 s0 s1 g be y))
    (act s0 s1 g be y) ?_ ?_ ?_ (inner3 s0 s1 g be y) h w d c
  · intro a w c
    pointwise [k0_pay52, k0_pay50, k0_pay49, act48]
  · intro a w c
    pointwise [k0_pay53, act48]
  · intro a w c
    pointwise [k0_pay54, k0_pay51, k0_pay49, act48]

end Cert.KernelIdeal.Value

end
-- ==== Proof.Acc.lean ====
/-
  The half-block accumulators over the extended reals: three products of slab rows with a row of taps are the 3 x 3
  convolution of the image the slab was made of.
-/
module

public import proofs.«01_k».proof.Proof.Slab

@[expose] public section

set_option maxRecDepth 16384

noncomputable section

namespace Cert.KernelIdeal.Value

open Cert.KernelIdeal Cert.KernelIdeal.Gen Cert.KernelIdeal.Spec
open Idealize.ShloMosaic
open Cert.Maths

/-- `Z` is the slab of the image `img` with `C` channels. -/
def IsSlab (C : ℕ) (Z : Vec Ideal S34x32x1152 .bf16) (img : Fin 32 → Fin 32 → Fin C → EReal) : Prop :=
  ∀ (h : Fin 34) (w : Fin 32) (d : Fin 3) (c : Fin C) (k : Fin 1152), k.val = d.val * C + c.val →
    Z (ix3 h w k) = padded (fun a b => img a b c) h.val (w.val + d.val)

/-- `W` is a table of taps `K`: row `dy`, entry `dx C + c`. -/
def IsTaps (C N : ℕ) (W : Fin 3 → Fin N → EReal) (K : Fin C → Fin 3 → Fin 3 → EReal) : Prop :=
  ∀ (dy d : Fin 3) (c : Fin C) (k : Fin N), k.val = d.val * C + c.val → W dy k = K c dy d

/-- One row of taps. -/
theorem row_of_taps (C N : ℕ) (hN : 3 * C = N) (hN' : N ≤ 1152) (Z : Vec Ideal S34x32x1152 .bf16) (W : Fin 3 → Fin N → EReal)
    (img : Fin 32 → Fin 32 → Fin C → EReal) (K : Fin C → Fin 3 → Fin 3 → EReal) (hZ : IsSlab C Z img) (hW : IsTaps C N W K)
    (h w : Fin 32) (dy : Fin 3) (h' : Fin 34) (e : h'.val = h.val + dy.val) :
    ∑ x : Fin N, (show EReal from Z (ix3 h' w ⟨x.val, by omega⟩)) * W dy x
      = ∑ dx : Fin 3, ∑ c : Fin C, padded (fun a b => img a b c) (h.val + dy.val) (w.val + dx.val) * K c dy dx := by
  rw [Fin.sum_univ_tiles 3 C hN]
  refine Finset.sum_congr rfl fun d _ => Finset.sum_congr rfl fun c _ => ?_
  rw [hW dy d c _ rfl, ← e]
  exact congrArg (· * K c dy d) (hZ h' w d c _ rfl)

/-- Three rows of taps: the convolution. -/
theorem sum_of_taps (C N : ℕ) (hN : 3 * C = N) (hN' : N ≤ 1152) (Z : Vec Ideal S34x32x1152 .bf16) (W : Fin 3 → Fin N → EReal)
    (img : Fin 32 → Fin 32 → Fin C → EReal) (K : Fin C → Fin 3 → Fin 3 → EReal) (hZ : IsSlab C Z img) (hW : IsTaps C N W K)
    (h w : Fin 32) (h0 h1 h2 : Fin 34) (e0 : h0.val = h.val + 0) (e1 : h1.val = h.val + 1) (e2 : h2.val = h.val + 2) :
    ∑ x : Fin N, (show EReal from Z (ix3 h0 w ⟨x.val, by omega⟩)) * W 0 x
        + ∑ x : Fin N, (show EReal from Z (ix3 h1 w ⟨x.val, by omega⟩)) * W 1 x
        + ∑ x : Fin N, (show EReal from Z (ix3 h2 w ⟨x.val, by omega⟩)) * W 2 x = conv img K h w := by
  unfold conv
  rw [Fin.sum_univ_three, row_of_taps C N hN hN' Z W img K hZ hW h w 0 h0 e0, row_of_taps C N hN hN' Z W img K hZ hW h w 1 h1 e1,
    row_of_taps C N hN hN' Z W img K hZ hW h w 2 h2 e2]

section

variable (Z : Vec Ideal S34x32x1152 .bf16) (r : Fin 512)

/-- First layer, upper and lower half. -/
theorem acc1a_at (w : Vec Ideal S3x1152x256 .bf16) (o : Fin 256) (img : Fin 32 → Fin 32 → Fin 384 → EReal)
    (K : Fin 384 → Fin 3 → Fin 3 → EReal) (hZ : IsSlab 384 Z img) (hW : IsTaps 384 1152 (fun dy k => w (ix3 dy k o)) K) :
    acc1a Z w (ix2 r o) = conv img K ⟨r.val / 32, by omega⟩ ⟨r.val % 32, by omega⟩ := by
  pointwise [acc1a, k0_pay21, k0_pay20, k0_pay19, k0_pay18]
  exact sum_of_taps 384 1152 rfl le_rfl Z _ img K hZ hW _ _ _ _ _ rfl (Nat.add_comm _ _) (Nat.add_comm _ _)

/-- The lower half's products of the first layer. -/
theorem acc1b_at (w : Vec Ideal S3x1152x256 .bf16) (o : Fin 256) (img : Fin 32 → Fin 32 → Fin 384 → EReal)
    (K : Fin 384 → Fin 3 → Fin 3 → EReal) (hZ : IsSlab 384 Z img) (hW : IsTaps 384 1152 (fun dy k => w (ix3 dy k o)) K) :
    acc1b Z w (ix2 r o) = conv img K ⟨16 + r.val / 32, by omega⟩ ⟨r.val % 32, by omega⟩ := by
  pointwise [acc1b, k0_pay22]
  exact sum_of_taps 384 1152 rfl le_rfl Z _ img K hZ hW _ _ _ _ _ rfl (by simp only; omega) (by simp only; omega)

/-- Second layer. -/
theorem acc2a_at (w : Vec Ideal S3x768x256 .bf16) (o : Fin 256) (img : Fin 32 → Fin 32 → Fin 256 → EReal)
    (K : Fin 256 → Fin 3 → Fin 3 → EReal) (hZ : IsSlab 256 Z img) (hW : IsTaps 256 768 (fun dy k => w (ix3 dy k o)) K) :
    acc2a Z w (ix2 r o) = conv img K ⟨r.val / 32, by omega⟩ ⟨r.val % 32, by omega⟩ := by
  pointwise [acc2a, k0_pay41]
  exact sum_of_taps 256 768 rfl (by norm_num) Z _ img K hZ hW _ _ _ _ _ rfl (Nat.add_comm _ _) (Nat.add_comm _ _)

/-- The lower half's products of the second layer. -/
theorem acc2b_at (w : Vec Ideal S3x768x256 .bf16) (o : Fin 256) (img : Fin 32 → Fin 32 → Fin 256 → EReal)
    (K : Fin 256 → Fin 3 → Fin 3 → EReal) (hZ : IsSlab 256 Z img) (hW : IsTaps 256 768 (fun dy k => w (ix3 dy k o)) K) :
    acc2b Z w (ix2 r o) = conv img K ⟨16 + r.val / 32, by omega⟩ ⟨r.val % 32, by omega⟩ := by
  pointwise [acc2b, k0_pay43, k0_pay42]
  exact sum_of_taps 256 768 rfl (by norm_num) Z _ img K hZ hW _ _ _ _ _ rfl (by simp only; omega) (by simp only; omega)

/-- Third layer. -/
theorem acc3a_at (w : Vec Ideal S3x768x128 .bf16) (o : Fin 128) (img : Fin 32 → Fin 32 → Fin 256 → EReal)
    (K : Fin 256 → Fin 3 → Fin 3 → EReal) (hZ : IsSlab 256 Z img) (hW : IsTaps 256 768 (fun dy k => w (ix3 dy k o)) K) :
    acc3a Z w (ix2 r o) = conv img K ⟨r.val / 32, by omega⟩ ⟨r.val % 32, by omega⟩ := by
  pointwise [acc3a, k0_pay55]
  exact sum_of_taps 256 768 rfl (by norm_num) Z _ img K hZ hW _ _ _ _ _ rfl (Nat.add_comm _ _) (Nat.add_comm _ _)

/-- The lower half's products of the third layer. -/
theorem acc3b_at (w : Vec Ideal S3x768x128 .bf16) (img : Fin 32 → Fin 32 → Fin 256 → EReal)
    (K : Fin 256 → Fin 3 → Fin 3 → EReal) (hZ : IsSlab 256 Z img) (hW : IsTaps 256 768 (fun dy k => w (ix3 dy k 0)) K) :
    acc3b Z w (ix2 r 0) = conv img K ⟨16 + r.val / 32, by omega⟩ ⟨r.val % 32, by omega⟩ := by
  pointwise [acc3b, k0_pay58, k0_pay56]
  exact sum_of_taps 256 768 rfl (by norm_num) Z _ img K hZ hW _ _ _ _ _ rfl (by simp only; omega) (by simp only; omega)

end

end Cert.KernelIdeal.Value

end
-- ==== Proof.Stats.lean ====
/-
  What a grid point adds to the running sums and stores of its block, over the extended reals: the sums over the image of the
  layer's values and of their squares, and the values themselves.
-/
module

public import proofs.«01_k».proof.Proof.Acc

@[expose] public section

set_option maxRecDepth 16384

noncomputable section

namespace Cert.KernelIdeal.Value

open Cert.KernelIdeal Cert.KernelIdeal.Gen Cert.KernelIdeal.Spec
open Idealize.ShloMosaic
open Cert.Maths

/-- `A` and `B` hold, in column `o`, the two halves of an image `y` less the bias `b`. -/
structure IsHalves (A B : FVec Ideal S512x256 .f32) (b : Vec Ideal S1x256 .f32) (o : Fin 256) (y : Fin 32 → Fin 32 → EReal) : Prop where
  a : ∀ r : Fin 512, (show EReal from A (ix2 r o)) + b (ix2 0 o) = y ⟨r.val / 32, by omega⟩ ⟨r.val % 32, by omega⟩
  b : ∀ r : Fin 512, (show EReal from B (ix2 r o)) + b (ix2 0 o) = y ⟨16 + r.val / 32, by omega⟩ ⟨r.val % 32, by omega⟩

section

variable {A B : FVec Ideal S512x256 .f32} {b : Vec Ideal S1x256 .f32} {o : Fin 256} {y : Fin 32 → Fin 32 → EReal}

/-- First layer: a block's two sums, -/
theorem pay30_at (H : IsHalves A B b o y) : k0_pay30 A B (k0_pay23 b) b (ix2 0 o) = ∑ h, ∑ w, y h w := by
  rw [← sum_halves]
  simp only [← H.a, ← H.b]
  pointwise [k0_pay30, k0_pay28, k0_pay26, k0_pay24, k0_pay23]

/-- The sum of the squares of an image of the first layer. -/
theorem pay31_at (H : IsHalves A B b o y) : k0_pay31 A B (k0_pay23 b) b (ix2 0 o) = ∑ h, ∑ w, y h w * y h w := by
  rw [← sum_halves]
  simp only [← H.a, ← H.b]
  pointwise [k0_pay31, k0_pay29, k0_pay26, k0_pay24, k0_pay23]

/-- added to the sums so far, -/
theorem pay32_at (H : IsHalves A B b o y) (T : Vec Ideal S1x256 .f32) :
    k0_pay32 A B (k0_pay23 b) b T (ix2 0 o) = (show EReal from T (ix2 0 o)) + ∑ h, ∑ w, y h w := by
  rw [← pay30_at H]
  pointwise [k0_pay32, k0_pay30]

/-- The running sum of the squares, one image on. -/
theorem pay33_at (H : IsHalves A B b o y) (T : Vec Ideal S1x256 .f32) :
    k0_pay33 A B (k0_pay23 b) b T (ix2 0 o) = (show EReal from T (ix2 0 o)) + ∑ h, ∑ w, y h w * y h w := by
  rw [← pay31_at H]
  pointwise [k0_pay33, k0_pay31]

/-- and the block itself. -/
theorem pay25_at (H : IsHalves A B b o y) (h : Fin 32) (w : Fin 32) :
    halves (k0_pay25 A (k0_pay23 b)) (k0_pay27 B b) (ix4 0 h w o) = y h w := by
  have hh := h.isLt
  have hw := w.isLt
  unfold halves
  pointwise [k0_pay25, k0_pay27, k0_pay24, k0_pay26, k0_pay23]
  by_cases hc : h.val < 16
  · rw [dif_pos hc]
    refine (H.a ⟨h.val * 32 + w.val, by omega⟩).trans ?_
    congr 1 <;> (apply Fin.ext; simp only; omega)
  · rw [dif_neg hc]
    refine (H.b ⟨(h.val - 16) * 32 + w.val, by omega⟩).trans ?_
    congr 1 <;> (apply Fin.ext; simp only; omega)

/-- Second layer: the same. -/
theorem pay8_at (H : IsHalves A B b o y) : k0_pay8 B (k0_pay46 A b) k0_pay47 b (ix2 0 o) = ∑ h, ∑ w, y h w := by
  rw [← sum_halves]
  simp only [← H.a, ← H.b]
  pointwise [k0_pay8, k0_pay6, k0_pay46, k0_pay47, k0_pay44, k0_pay4]

/-- The sum of the squares of an image of the second layer. -/
theorem pay9_at (H : IsHalves A B b o y) : k0_pay9 B (k0_pay44 A b) b (ix2 0 o) = ∑ h, ∑ w, y h w * y h w := by
  rw [← sum_halves]
  simp only [← H.a, ← H.b]
  pointwise [k0_pay9, k0_pay7, k0_pay44, k0_pay4]

/-- The running sum of the second layer, one image on. -/
theorem pay10_at (H : IsHalves A B b o y) (T : Vec Ideal S1x256 .f32) :
    k0_pay10 B (k0_pay46 A b) k0_pay47 b T (ix2 0 o) = (show EReal from T (ix2 0 o)) + ∑ h, ∑ w, y h w := by
  rw [← pay8_at H]
  pointwise [k0_pay10, k0_pay8]

/-- The running sum of the squares of the second layer, one image on. -/
theorem pay11_at (H : IsHalves A B b o y) (T : Vec Ideal S1x256 .f32) :
    k0_pay11 B (k0_pay44 A b) b T (ix2 0 o) = (show EReal from T (ix2 0 o)) + ∑ h, ∑ w, y h w * y h w := by
  rw [← pay9_at H]
  pointwise [k0_pay11, k0_pay9]

/-- A value of the second layer as it is stored. -/
theorem pay45_at (H : IsHalves A B b o y) (h : Fin 32) (w : Fin 32) :
    halves (k0_pay45 A b) (k0_pay5 B b) (ix4 0 h w o) = y h w := by
  have hh := h.isLt
  have hw := w.isLt
  unfold halves
  pointwise [k0_pay45, k0_pay5, k0_pay44, k0_pay4]
  by_cases hc : h.val < 16
  · rw [dif_pos hc]
    refine (H.a ⟨h.val * 32 + w.val, by omega⟩).trans ?_
    congr 1 <;> (apply Fin.ext; simp only; omega)
  · rw [dif_neg hc]
    refine (H.b ⟨(h.val - 16) * 32 + w.val, by omega⟩).trans ?_
    congr 1 <;> (apply Fin.ext; simp only; omega)

end

/-- Third layer: the two halves of the result block. -/
theorem pay57_at (A : FVec Ideal S512x128 .f32) (b : Vec Ideal S1x1 .f32) (r : Fin 512) :
    k0_pay57 A b (ix3 0 r 0) = Ideal.logistic ((show EReal from A (ix2 r 0)) + b (ix2 0 0)) := by
  pointwise [k0_pay57]

/-- A value of the result: the logistic function of the product plus the bias. -/
theorem pay12_at (A : FVec Ideal S512x1 .f32) (b : Vec Ideal S1x1 .f32) (r : Fin 512) :
    k0_pay12 A (k0_pay59 b) (ix3 0 r 0) = Ideal.logistic ((show EReal from A (ix2 r 0)) + b (ix2 0 0)) := by
  pointwise [k0_pay12, k0_pay59]

/-- A row of the two running sums. -/
theorem rows_at0 (T : Vec Ideal S2x256 .f32) (a b : FVec Ideal S1x256 .f32) (o : Fin 256) :
    row0 (over (Val := Elt Ideal) T (rows a b)) (ix2 0 o) = a (ix2 0 o) := by
  refine Eq.trans (over_cons_of_not_mem _ _ _ ?_) (over_cons_emb _ _ _ _ _)
  exact Rect.not_mem_set_of_axis _ _ 0 1 1 rfl rfl rfl (Or.inl (Nat.zero_lt_one : 0 + 1 * 0 < 1))
/-- The second row of the array of sums. -/
theorem rows_at1 (T : Vec Ideal S2x256 .f32) (a b : FVec Ideal S1x256 .f32) (o : Fin 256) :
    row1 (over (Val := Elt Ideal) T (rows a b)) (ix2 0 o) = b (ix2 0 o) := by
  exact over_cons_emb _ _ _ _ _

end Cert.KernelIdeal.Value

end
-- ==== Proof.Net.lean ====
/-
  The kernel's result block over the extended reals: the three-layer network of `Maths`, evaluated on the arrays the kernel's
  buffers hold.
-/
module

public import proofs.«01_k».proof.Proof.Stats

@[expose] public section

set_option maxRecDepth 16384

noncomputable section

namespace Cert.Maths

/-- The arrays of the problem, at coordinates. -/
structure Args where
  x : Img 384
  k1 : Fin 256 → Fin 384 → Fin 3 → Fin 3 → EReal
  k2 : Fin 256 → Fin 256 → Fin 3 → Fin 3 → EReal
  k3 : Fin 1 → Fin 256 → Fin 3 → Fin 3 → EReal
  b1 : Fin 256 → EReal
  g1 : Fin 256 → EReal
  be1 : Fin 256 → EReal
  b2 : Fin 256 → EReal
  g2 : Fin 256 → EReal
  be2 : Fin 256 → EReal
  b3 : Fin 1 → EReal

namespace Args

variable (A : Args)

/-- The values the two normalisations are taken of, and the result. -/
def l1 : Img 256 := convLayer A.k1 A.b1 A.x
/-- The second layer before its normalisation. -/
def l2 : Img 256 := convLayer A.k2 A.b2 (normLayer A.g1 A.be1 A.l1)
/-- The third layer before the logistic function. -/
def l3 : Img 1 := convLayer A.k3 A.b3 (normLayer A.g2 A.be2 A.l2)
/-- The result. -/
def result (n : Fin 16) (h w : Fin 32) : EReal := Idealize.ShloMosaic.Ideal.logistic (A.l3 n h w 0)

end Args

end Cert.Maths

namespace Cert.KernelIdeal.Value

open Cert.KernelIdeal Cert.KernelIdeal.Gen Cert.KernelIdeal.Spec
open Idealize.ShloMosaic
open Cert.Maths

/-- What the kernel's buffers hold is the arrays `A`, laid out as the kernel wants them. -/
structure Reads (I : Inp Ideal) (A : Args) : Prop where
  x : ∀ (n : Fin 16) (a b : Fin 32) (c : Fin 384), I.x n.val (ix4 0 a b c) = A.x n a b c
  w1 : ∀ o : Fin 256, IsTaps 384 1152 (fun dy k => I.w1 (ix3 dy k o)) (A.k1 o)
  w2 : ∀ o : Fin 256, IsTaps 256 768 (fun dy k => I.w2 (ix3 dy k o)) (A.k2 o)
  w3 : IsTaps 256 768 (fun dy k => I.w3 (ix3 dy k 0)) (A.k3 0)
  b1 : ∀ o : Fin 256, I.b1 (ix2 0 o) = A.b1 o
  g1 : ∀ o : Fin 256, I.g1 (ix2 0 o) = A.g1 o
  be1 : ∀ o : Fin 256, I.be1 (ix2 0 o) = A.be1 o
  b2 : ∀ o : Fin 256, I.b2 (ix2 0 o) = A.b2 o
  g2 : ∀ o : Fin 256, I.g2 (ix2 0 o) = A.g2 o
  be2 : ∀ o : Fin 256, I.be2 (ix2 0 o) = A.be2 o
  b3 : I.b3 (ix2 0 0) = A.b3 0
  fin1 : ∀ o : Fin 256, ∃ γ : ℝ, A.g1 o = (γ : EReal)
  fin2 : ∀ o : Fin 256, ∃ γ : ℝ, A.g2 o = (γ : EReal)

/-- Image `n` of a family of 16, as a function of a number: zero past the last. -/
def at' (f : Fin 16 → EReal) (n : ℕ) : EReal := if h : n < 16 then f ⟨n, h⟩ else 0

/-- At a number below 16 the family's member. -/
theorem at'_val (f : Fin 16 → EReal) (n : Fin 16) : at' f n.val = f n := dif_pos n.isLt

/-- A sum over the first 16 numbers is the sum of the family. -/
theorem sum_at' (f : Fin 16 → EReal) : ∑ k ∈ Finset.range 16, at' f k = ∑ n, f n := by
  rw [Finset.sum_range]
  exact Finset.sum_congr rfl fun n _ => at'_val f n

/-- The sum of one image's values in channel `o`, and of their squares. -/
def sums (y : Img 256) (o : Fin 256) (n : Fin 16) : EReal := ∑ h, ∑ w, y n h w o
/-- The sum of the squares of one image's values in channel `o`. -/
def squares (y : Img 256) (o : Fin 256) (n : Fin 16) : EReal := ∑ h, ∑ w, y n h w o * y n h w o

variable {I : Inp Ideal} {A : Args} (R : Reads I A)

/-! ## First layer -/

include R in
/-- The slab of the first layer holds the image and its two column shifts. -/
theorem isSlab1 (n : Fin 16) : IsSlab 384 (slab1 I n.val) (A.x n) := by
  intro h w d c k hk
  have e : k = ⟨d.val * 384 + c.val, by omega⟩ := Fin.ext hk
  rw [e]
  rw [slab1_at]
  simp only [R.x]

include R in
/-- The two halves' products are the first convolution, upper and lower rows. -/
theorem halves1 (n : Fin 16) (o : Fin 256) :
    IsHalves (acc1a (slab1 I n.val) I.w1) (acc1b (slab1 I n.val) I.w1) I.b1 o (fun h w => A.l1 n h w o) where
  a r := by rw [acc1a_at _ r _ o _ _ (isSlab1 R n) (R.w1 o), R.b1]; rfl
  b r := by rw [acc1b_at _ r _ o _ _ (isSlab1 R n) (R.w1 o), R.b1]; rfl

include R in
/-- The first intermediate array holds the first layer. -/
theorem y1_at (n : Fin 16) (h w : Fin 32) (o : Fin 256) : y1 I n.val (ix4 0 h w o) = A.l1 n h w o :=
  pay25_at (halves1 R n o) h w

include R in
/-- The running sums after image `n` of the first layer. -/
theorem t1_at (o : Fin 256) (n : ℕ) (hn : n < 16) :
    (show EReal from row0 (t1 I n) (ix2 0 o)) = ∑ k ∈ Finset.range (n + 1), at' (sums A.l1 o) k
      ∧ (show EReal from row1 (t1 I n) (ix2 0 o)) = ∑ k ∈ Finset.range (n + 1), at' (squares A.l1 o) k := by
  induction n with
  | zero =>
    rw [Finset.sum_range_one, Finset.sum_range_one]
    exact ⟨(rows_at0 _ _ _ o).trans ((pay30_at (halves1 R 0 o)).trans (at'_val (sums A.l1 o) 0).symm),
      (rows_at1 _ _ _ o).trans ((pay31_at (halves1 R 0 o)).trans (at'_val (squares A.l1 o) 0).symm)⟩
  | succ n ih =>
    obtain ⟨ih0, ih1⟩ := ih (by omega)
    have H := halves1 R ⟨n + 1, hn⟩ o
    rw [Finset.sum_range_succ, Finset.sum_range_succ _ (n + 1)]
    refine ⟨(rows_at0 _ _ _ o).trans ((pay32_at H _).trans ?_), (rows_at1 _ _ _ o).trans ((pay33_at H _).trans ?_)⟩
    · exact congrArg₂ (· + ·) ih0 (at'_val (sums A.l1 o) ⟨n + 1, hn⟩).symm
    · exact congrArg₂ (· + ·) ih1 (at'_val (squares A.l1 o) ⟨n + 1, hn⟩).symm

/-! ## Second layer -/

include R in
/-- The normalised first layer, as the second layer computes it from the sums. -/
theorem act1_at (n : Fin 16) (a b : Fin 32) (c : Fin 256) :
    act (row0 (t1 I 15)) (row1 (t1 I 15)) I.g1 I.be1 (y1 I n.val) a b c = normLayer A.g1 A.be1 A.l1 n a b c := by
  obtain ⟨h0, h1⟩ := t1_at R c 15 (by norm_num)
  rw [sum_at'] at h0 h1
  rw [← affine_eq_normLayer A.g1 A.be1 A.l1 n a b c (R.fin1 c)]
  unfold act
  rw [R.g1, R.be1, y1_at R]
  exact congrArg₂ (fun s q => max (affine cnt eps (A.g1 c) (A.be1 c) s q (A.l1 n a b c)) 0) h0 h1

include R in
/-- The slab of the second layer holds that image and its two column shifts. -/
theorem isSlab2 (n : Fin 16) : IsSlab 256 (slab2 I n.val) (normLayer A.g1 A.be1 A.l1 n) := by
  intro h w d c k hk
  have e : k = ⟨d.val * 256 + c.val, by omega⟩ := Fin.ext hk
  rw [e]
  unfold slab2
  rw [pieces2_at]
  simp only [act1_at R]

include R in
/-- The two halves' products are the second convolution. -/
theorem halves2 (n : Fin 16) (o : Fin 256) :
    IsHalves (acc2a (slab2 I n.val) I.w2) (acc2b (slab2 I n.val) I.w2) I.b2 o (fun h w => A.l2 n h w o) where
  a r := by rw [acc2a_at _ r _ o _ _ (isSlab2 R n) (R.w2 o), R.b2]; rfl
  b r := by rw [acc2b_at _ r _ o _ _ (isSlab2 R n) (R.w2 o), R.b2]; rfl

include R in
/-- The second intermediate array holds the second layer. -/
theorem y2_at (n : Fin 16) (h w : Fin 32) (o : Fin 256) : y2 I n.val (ix4 0 h w o) = A.l2 n h w o :=
  pay45_at (halves2 R n o) h w

include R in
/-- The running sums after image `n` of the second layer. -/
theorem t2_at (o : Fin 256) (n : ℕ) (hn : n < 16) :
    (show EReal from row0 (t2 I n) (ix2 0 o)) = ∑ k ∈ Finset.range (n + 1), at' (sums A.l2 o) k
      ∧ (show EReal from row1 (t2 I n) (ix2 0 o)) = ∑ k ∈ Finset.range (n + 1), at' (squares A.l2 o) k := by
  induction n with
  | zero =>
    rw [Finset.sum_range_one, Finset.sum_range_one]
    exact ⟨(rows_at0 _ _ _ o).trans ((pay8_at (halves2 R 0 o)).trans (at'_val (sums A.l2 o) 0).symm),
      (rows_at1 _ _ _ o).trans ((pay9_at (halves2 R 0 o)).trans (at'_val (squares A.l2 o) 0).symm)⟩
  | succ n ih =>
    obtain ⟨ih0, ih1⟩ := ih (by omega)
    have H := halves2 R ⟨n + 1, hn⟩ o
    rw [Finset.sum_range_succ, Finset.sum_range_succ _ (n + 1)]
    refine ⟨(rows_at0 _ _ _ o).trans ((pay10_at H _).trans ?_), (rows_at1 _ _ _ o).trans ((pay11_at H _).trans ?_)⟩
    · exact congrArg₂ (· + ·) ih0 (at'_val (sums A.l2 o) ⟨n + 1, hn⟩).symm
    · exact congrArg₂ (· + ·) ih1 (at'_val (squares A.l2 o) ⟨n + 1, hn⟩).symm

/-! ## Third layer -/

include R in
/-- The normalised second layer, as the third layer computes it from the sums. -/
theorem act2_at (n : Fin 16) (a b : Fin 32) (c : Fin 256) :
    act (row0 (t2 I 15)) (row1 (t2 I 15)) I.g2 I.be2 (y2 I n.val) a b c = normLayer A.g2 A.be2 A.l2 n a b c := by
  obtain ⟨h0, h1⟩ := t2_at R c 15 (by norm_num)
  rw [sum_at'] at h0 h1
  rw [← affine_eq_normLayer A.g2 A.be2 A.l2 n a b c (R.fin2 c)]
  unfold act
  rw [R.g2, R.be2, y2_at R]
  exact congrArg₂ (fun s q => max (affine cnt eps (A.g2 c) (A.be2 c) s q (A.l2 n a b c)) 0) h0 h1

include R in
/-- The slab of the third layer holds that image and its two column shifts. -/
theorem isSlab3 (n : Fin 16) : IsSlab 256 (slab3 I n.val) (normLayer A.g2 A.be2 A.l2 n) := by
  intro h w d c k hk
  have e : k = ⟨d.val * 256 + c.val, by omega⟩ := Fin.ext hk
  rw [e]
  unfold slab3
  rw [pieces3_at]
  simp only [act2_at R]

/-- Where the upper half of the output block lies. -/
theorem out_emb0 (r : Fin 512) : (Rect.unit (s := S1x1024x1) ![0, 0, 0] S1x512x1.size inb_S1x1024x1_S1x512x1_0_0_0).emb (ix3 0 r 0 : S1x512x1.Idx)
    = (ix3 0 ⟨r.val, by omega⟩ 0 : S1x1024x1.Idx) := by
  refine funext fun a => Fin.ext ?_
  refine (Rect.emb_apply _ _ a).trans ?_
  fin_cases a <;> simp [Rect.unit, ix3]

/-- Where the lower half of the output block lies. -/
theorem out_emb1 (r : Fin 512) : (Rect.unit (s := S1x1024x1) ![0, 512, 0] S1x512x1.size inb_S1x1024x1_S1x512x1_0_512_0).emb (ix3 0 r 0 : S1x512x1.Idx)
    = (ix3 0 ⟨512 + r.val, by omega⟩ 0 : S1x1024x1.Idx) := by
  refine funext fun a => Fin.ext ?_
  refine (Rect.emb_apply _ _ a).trans ?_
  fin_cases a <;> simp [Rect.unit, ix3]

include R in
/-- The upper half of the output block is the result of rows 0 to 15. -/
theorem out_lo (n : Fin 16) (r : Fin 512) :
    out I n.val (ix3 0 ⟨r.val, by omega⟩ 0) = A.result n ⟨r.val / 32, by omega⟩ ⟨r.val % 32, by omega⟩ := by
  unfold out outs
  rw [← out_emb0]
  refine (over_cons_of_not_mem _ _ _ (Rect.not_mem_set_of_axis _ _ 1 512 512 rfl rfl rfl (Or.inl ?_))).trans
    ((over_cons_emb _ _ _ _ _).trans ((pay57_at _ _ _).trans ?_))
  · rw [out_emb0]
    exact r.isLt
  · rw [acc3a_at _ r _ _ _ (A.k3 0) (isSlab3 R n) R.w3, R.b3]
    rfl

include R in
/-- The lower half of the output block is the result of rows 16 to 31. -/
theorem out_hi (n : Fin 16) (r : Fin 512) :
    out I n.val (ix3 0 ⟨512 + r.val, by omega⟩ 0) = A.result n ⟨16 + r.val / 32, by omega⟩ ⟨r.val % 32, by omega⟩ := by
  unfold out outs
  rw [← out_emb1]
  refine (over_cons_emb _ _ _ _ _).trans ((pay12_at _ _ _).trans ?_)
  rw [acc3b_at _ r _ _ (A.k3 0) (isSlab3 R n) R.w3, R.b3]
  rfl

include R in
/-- THE RESULT BLOCK: position `32 h + w` of image `n` is the network's value at row `h` and column `w`. -/
theorem out_at (n : Fin 16) (h w : Fin 32) :
    out I n.val (ix3 0 ⟨h.val * 32 + w.val, by omega⟩ 0) = A.result n h w := by
  by_cases hr : h.val < 16
  · have := out_lo R n ⟨h.val * 32 + w.val, by omega⟩
    refine this.trans (congrArg₂ (A.result n) (Fin.ext ?_) (Fin.ext ?_)) <;> simp only <;> omega
  · have := out_hi R n ⟨(h.val - 16) * 32 + w.val, by omega⟩
    have e : (⟨512 + ((h.val - 16) * 32 + w.val), by omega⟩ : Fin 1024) = ⟨h.val * 32 + w.val, by omega⟩ := Fin.ext (by simp only; omega)
    rw [← e]
    refine this.trans (congrArg₂ (A.result n) (Fin.ext ?_) (Fin.ext ?_)) <;> simp only <;> omega

end Cert.KernelIdeal.Value

end
-- ==== Proof.Host.lean ====
/-
  What the kernel's windows hold: the argument arrays, the weights transposed and stacked and the last layer's padded with columns of
  zeros, as the host operations before the kernel lay them out.
-/
module

public import proofs.«01_k».proof.Proof.Body
public import proofs.«01_k».proof.Proof.Net
public import Idealize.ShloMosaic.Lib.Pipeline.ValueKit

@[expose] public section

set_option maxRecDepth 16384

noncomputable section

namespace Cert.KernelIdeal.Value

open Cert.KernelIdeal Cert.KernelIdeal.Gen Cert.KernelIdeal.Spec Cert.KernelIdeal.Body
open Idealize.ShloMosaic Idealize.ShloMosaic.TcCoe
open Cert.Maths

variable (m : (ℓ : Loc nD τ sig) → Buf (Elt Ideal) ℓ) (c : Dev nD)

/-- The argument arrays at coordinates. -/
abbrev argsAt (a0 : FVec Ideal S16x32x32x384 .f32) (a1 : FVec Ideal S256x384x3x3 .f32) (a2 a3 a4 : FVec Ideal S256 .f32)
    (a5 : FVec Ideal S256x256x3x3 .f32) (a6 a7 a8 : FVec Ideal S256 .f32) (a9 : FVec Ideal S1x256x3x3 .f32)
    (a10 : FVec Ideal S1 .f32) : Args where
  x n a b k := a0 (ix4 n a b k)
  k1 o k dy dx := a1 (ix4 o k dy dx)
  k2 o k dy dx := a5 (ix4 o k dy dx)
  k3 o k dy dx := a9 (ix4 o k dy dx)
  b1 o := a2 (ix1 o)
  g1 o := a3 (ix1 o)
  be1 o := a4 (ix1 o)
  b2 o := a6 (ix1 o)
  g2 o := a7 (ix1 o)
  be2 o := a8 (ix1 o)
  b3 o := a10 (ix1 o)

/-- The arrays in the argument buffers. -/
abbrev args : Args := argsAt (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10))

/-- The windows' block indices. -/
theorem idx : ∀ t : Fin cfg0.N, win0_0.index t = ![min t.val 15, 0, 0, 0] ∧ win0_1.index t = ![0, 0, 0] ∧ win0_2.index t = ![0, 0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val - 32, 0, 0] :=
  (by decide +kernel : ∀ t : Fin grid0.N, _)

/-- The window of the image at grid point `n` shows image `n`. -/
theorem blk0 (n : Fin 16) (t : Fin cfg0.N) (ht : t.val = n.val) (a b : Fin 32) (k : Fin 384) :
    iblk m c 0 t (ix4 0 a b k) = m ((c : Thread nD τ).loc main_arg0) (ix4 n a b k) := by
  blk_ext [iblk, V_main_arg0, idx t, ht]

/-- The weights of each layer, column offset and input channel on one axis. -/
theorem blk1 (t : Fin cfg0.N) (dy : Fin 3) (k : Fin 1152) (o : Fin 256) (d : Fin 3) (j : Fin 384) (h : k.val = d.val * 384 + j.val) :
    iblk m c 1 t (ix3 dy k o) = m ((c : Thread nD τ).loc main_arg1) (ix4 o j dy d) := by
  have e : iblk m c 1 t (ix3 dy k o) = V m c main_v2 (ix3 dy k o) := by blk_ext [iblk, idx t]
  rw [e]
  simp only [V, V0, hostOps0, hostOps0_1, hostOps0_2, List.flatten_cons, List.flatten_nil, List.append_nil, List.cons_append, List.nil_append]
  after_results
  pointwise
  refine congrArg (m ((c : Thread nD τ).loc main_arg1)) (congrArg₂ (fun x y => ix4 o x dy y) (Fin.ext ?_) (Fin.ext ?_)) <;> simp only <;> omega

/-- The second layer's weights. -/
theorem blk2 (t : Fin cfg0.N) (dy : Fin 3) (k : Fin 768) (o : Fin 256) (d : Fin 3) (j : Fin 256) (h : k.val = d.val * 256 + j.val) :
    iblk m c 2 t (ix3 dy k o) = m ((c : Thread nD τ).loc main_arg5) (ix4 o j dy d) := by
  have e : iblk m c 2 t (ix3 dy k o) = V m c main_v5 (ix3 dy k o) := by blk_ext [iblk, idx t]
  rw [e]
  simp only [V, V0, hostOps0, hostOps0_1, hostOps0_2, List.flatten_cons, List.flatten_nil, List.append_nil, List.cons_append, List.nil_append]
  after_results
  pointwise
  refine congrArg (m ((c : Thread nD τ).loc main_arg5)) (congrArg₂ (fun x y => ix4 o x dy y) (Fin.ext ?_) (Fin.ext ?_)) <;> simp only <;> omega

/-- The last layer's weights are column 0 of the padded array. -/
theorem padded_at (x : FVec Ideal S3x768x1 .bf16) (v : FVec Ideal S_ .bf16) (dy : Fin 3) (k : Fin 768) :
    pad S3x768x128 ![0, 0, 0] ![0, 0, 127] ![0, 0, 0] x v pads_S3x768x1_S3x768x128_000_000_01270 h_S_ (ix3 dy k 0) = x (ix3 dy k 0) := by
  pointwise

/-- The third layer's weights. -/
theorem blk3 (t : Fin cfg0.N) (dy : Fin 3) (k : Fin 768) (d : Fin 3) (j : Fin 256) (h : k.val = d.val * 256 + j.val) :
    iblk m c 3 t (ix3 dy k 0) = m ((c : Thread nD τ).loc main_arg9) (ix4 0 j dy d) := by
  have e : iblk m c 3 t (ix3 dy k 0) = V m c main_v9 (ix3 dy k 0) := by blk_ext [iblk, idx t]
  rw [e]
  simp only [V, V0, hostOps0, hostOps0_1, hostOps0_2, List.flatten_cons, List.flatten_nil, List.append_nil, List.cons_append, List.nil_append]
  after_results
  refine (padded_at _ _ dy k).trans ?_
  show shapeCast S3x768x1 (transpose S3x3x256x1 [2, 3, 1, 0] (truncf .bf16 (show FVec Ideal S1x256x3x3 .f32 from m ((c : Thread nD τ).loc main_arg9)) bitsLt_bf16_f32)
    transposes_S1x256x3x3_S3x3x256x1_2_3_1_0) shapeCasts_S3x3x256x1_S3x768x1 (ix3 dy k 0) = _
  pointwise
  refine congrArg (m ((c : Thread nD τ).loc main_arg9)) (congrArg₂ (fun x y => ix4 0 x dy y) (Fin.ext ?_) (Fin.ext ?_)) <;> simp only <;> omega

/-- The biases, scales and shifts. -/
theorem blk4_9 (t : Fin cfg0.N) (o : Fin 256) :
    iblk m c 4 t (ix2 0 o) = m ((c : Thread nD τ).loc main_arg2) (ix1 o)
      ∧ iblk m c 5 t (ix2 0 o) = m ((c : Thread nD τ).loc main_arg3) (ix1 o)
      ∧ iblk m c 6 t (ix2 0 o) = m ((c : Thread nD τ).loc main_arg4) (ix1 o)
      ∧ iblk m c 7 t (ix2 0 o) = m ((c : Thread nD τ).loc main_arg6) (ix1 o)
      ∧ iblk m c 8 t (ix2 0 o) = m ((c : Thread nD τ).loc main_arg7) (ix1 o)
      ∧ iblk m c 9 t (ix2 0 o) = m ((c : Thread nD τ).loc main_arg8) (ix1 o) := by
  obtain ⟨e4, e5, e6, e7, e8, e9⟩ : iblk m c 4 t (ix2 0 o) = V m c main_v10 (ix2 0 o) ∧ iblk m c 5 t (ix2 0 o) = V m c main_v11 (ix2 0 o)
      ∧ iblk m c 6 t (ix2 0 o) = V m c main_v12 (ix2 0 o) ∧ iblk m c 7 t (ix2 0 o) = V m c main_v13 (ix2 0 o)
      ∧ iblk m c 8 t (ix2 0 o) = V m c main_v14 (ix2 0 o) ∧ iblk m c 9 t (ix2 0 o) = V m c main_v15 (ix2 0 o) := by
    refine ⟨?_, ?_, ?_, ?_, ?_, ?_⟩ <;> blk_ext [iblk, idx t]
  refine ⟨e4.trans ?_, e5.trans ?_, e6.trans ?_, e7.trans ?_, e8.trans ?_, e9.trans ?_⟩ <;>
  · simp only [V, V0, hostOps0, hostOps0_1, hostOps0_2, List.flatten_cons, List.flatten_nil, List.append_nil, List.cons_append, List.nil_append]
    after_results
    pointwise

/-- The third layer's bias. -/
theorem blk10 (t : Fin cfg0.N) : iblk m c 10 t (ix2 0 0) = m ((c : Thread nD τ).loc main_arg10) (ix1 0) := by
  have e : iblk m c 10 t (ix2 0 0) = V m c main_v16 (ix2 0 0) := by blk_ext [iblk, idx t]
  rw [e]
  simp only [V, V0, hostOps0, hostOps0_1, hostOps0_2, List.flatten_cons, List.flatten_nil, List.append_nil, List.cons_append, List.nil_append]
  after_results
  pointwise

/-- The grid is not empty. -/
theorem pos : 0 < cfg0.N := by have := N_0; change 0 < grid0.N; omega

/-- WHAT THE KERNEL IS GIVEN. -/
theorem reads (hg1 : ∀ o : Fin 256, ∃ γ : ℝ, (args m c).g1 o = (γ : EReal)) (hg2 : ∀ o : Fin 256, ∃ γ : ℝ, (args m c).g2 o = (γ : EReal)) :
    Reads (inp m c) (args m c) where
  x n a b k := by
    have hn : n.val < cfg0.N := by have := N_0; change n.val < grid0.N; omega
    exact (congrFun (inp_x m c ⟨n.val, hn⟩) _).symm.trans (blk0 m c n ⟨n.val, hn⟩ rfl a b k)
  w1 o dy d j k h := blk1 m c ⟨0, pos⟩ dy k o d j h
  w2 o dy d j k h := blk2 m c ⟨0, pos⟩ dy k o d j h
  w3 dy d j k h := blk3 m c ⟨0, pos⟩ dy k d j h
  b1 o := (blk4_9 m c ⟨0, pos⟩ o).1
  g1 o := (blk4_9 m c ⟨0, pos⟩ o).2.1
  be1 o := (blk4_9 m c ⟨0, pos⟩ o).2.2.1
  b2 o := (blk4_9 m c ⟨0, pos⟩ o).2.2.2.1
  g2 o := (blk4_9 m c ⟨0, pos⟩ o).2.2.2.2.1
  be2 o := (blk4_9 m c ⟨0, pos⟩ o).2.2.2.2.2
  b3 := blk10 m c ⟨0, pos⟩
  fin1 := hg1
  fin2 := hg2

/-! ## The result array -/

variable (hg1 : ∀ o : Fin 256, ∃ γ : ℝ, (args m c).g1 o = (γ : EReal)) (hg2 : ∀ o : Fin 256, ∃ γ : ℝ, (args m c).g2 o = (γ : EReal))

/-- The result as the kernel leaves it: image by image, positions row by row. -/
def flat (A : Args) : FVec Ideal S16x1024x1 .f32 := fun i =>
  A.result (i 0) ⟨(i 1).val / 32, by have := (i 1).isLt; change (i 1).val < 1024 at this; omega⟩ ⟨(i 1).val % 32, by omega⟩

/-- The result's blocks are written back only once the third layer has begun. -/
theorem flush_ge : ∀ t : Fin cfg0.N, (cfg0.win 11).flush t = true → 32 ≤ t.val ∧ t.val < 48 :=
  (by decide +kernel : ∀ t : Fin grid0.N, _)

include hg1 hg2 in
/-- The block written at a grid point of the third layer is its part of the result array. -/
theorem point (t : Fin cfg0.N) (h : 32 ≤ t.val ∧ t.val < 48) (y : S1x1024x1.Idx) :
    out (inp m c) (t.val - 32) y = flat (args m c) ((win0_11.blk t).view.emb y) := by
  have e0 : (((win0_11.blk t).view.emb y) 0 : ℕ) = t.val - 32 := by
    blk_simp [idx t]
  have e1 : (((win0_11.blk t).view.emb y) 1 : ℕ) = (y 1).val := by
    blk_simp [idx t]
  have hy1 : (y 1).val < 1024 := (y 1).isLt
  have hy : y = ix3 0 ⟨(⟨(y 1).val / 32, by omega⟩ : Fin 32).val * 32 + (⟨(y 1).val % 32, by omega⟩ : Fin 32).val, by simp only; omega⟩ 0 := by
    blk_ext
  refine (congrArg _ hy).trans ((out_at (reads m c hg1 hg2) ⟨t.val - 32, by omega⟩ _ _).trans ?_)
  unfold flat
  refine congr (congrArg₂ (args m c).result (Fin.ext e0.symm) (Fin.ext ?_)) (Fin.ext ?_)
  · simp only [e1]
  · simp only [e1]

include hg1 hg2 in
/-- THE RESULT ARRAY at the end of the grid. -/
theorem final : (dats m 0 c).arrAt 11 (cfgs 0).N = flat (args m c) := by
  refine (dats m 0 c).arrAt_eq_of_covers 11 _ (by decide +kernel) fun t hf y => ?_
  blk_simp
  rw [after0_11]
  exact point m c hg1 hg2 t (flush_ge t hf) y

/-- The result as the program returns it. -/
def image (A : Args) : FVec Ideal S16x32x32x1 .f32 := fun i => A.result (i 0) (i 1) (i 2)

/-- Positions row by row, read as rows and columns. -/
theorem image_eq (A : Args) : shapeCast S16x32x32x1 (flat A) shapeCasts_S16x1024x1_S16x32x32x1 = image A := by
  funext i
  obtain ⟨n, h, w, z, rfl⟩ : ∃ n h w z, i = ix4 n h w z := ⟨i 0, i 1, i 2, i 3, by blk_ext⟩
  pointwise [flat, image]
  refine congrArg₂ (A.result n) (Fin.ext ?_) (Fin.ext ?_) <;> simp only <;> omega

include hg1 hg2 in
/-- The result after the reshape that follows the grid. -/
theorem result_eq : Pipeline.afterTail₀ cfgs (dats m) 0 (V0 m) [hostOps1] c main_v18 = image (args m c) := by
  rw [← image_eq, ← final m c hg1 hg2]
  unfold Pipeline.afterTail₀
  simp only [hostOps1, List.flatten_cons, List.flatten_nil, List.append_nil]
  after_results
  exact congrArg (fun x : FVec Ideal S16x1024x1 .f32 => shapeCast S16x32x32x1 x shapeCasts_S16x1024x1_S16x32x32x1)
    (Pipeline.withArrays_arr spec0 (by decide) c (V0 m c) (fun w => (dats m 0 c).arrAt w (cfgs 0).N) 11)

/-- THE KERNEL'S RUN: its result is the network's, its arguments are unchanged. -/
theorem result_run (ρ : Dev nD → PrngReg) (hg1 : ∀ c, ∀ o : Fin 256, ∃ γ : ℝ, (args m c).g1 o = (γ : EReal))
    (hg2 : ∀ c, ∀ o : Fin 256, ∃ γ : ℝ, (args m c).g2 o = (γ : EReal)) :
    θ_run defs (onTc (τ := τ) (main (F := Ideal))) ⟨m, fun _ => 0, ρ⟩
      (fun r => ∀ c : Dev nD, r.2.mem ((c.tc : Thread nD τ).loc main_v18) = image (args m c)) :=
  (θ_run defs _ _).mono (fun _ h c => ((h c).2 main_v18 (Pipeline.mem_restRefs_of main_v18 (by decide) (by decide))).trans
    (result_eq m c (hg1 c) (hg2 c))) (run_main m ρ)

end Cert.KernelIdeal.Value

end
-- ==== Proof.RefNet.lean ====
/-
  The reference over the extended reals, read at an index: the three-layer network of `Maths` on its argument arrays.
-/
module

public import proofs.«01_k».proof.Proof.Gen.ReferenceIdeal.Read
public import proofs.«01_k».proof.Proof.Host
public import Idealize.ShloMosaic.Lib.Pipeline.ValueKit

@[expose] public section

set_option maxRecDepth 16384

noncomputable section

namespace Cert.ReferenceIdeal.Net

open Cert.ReferenceIdeal Cert.ReferenceIdeal.Gen Cert.ReferenceIdeal.Read
open Idealize.ShloMosaic Idealize.ShloMosaic.TcCoe
open Cert.Maths

/-- A sum over images, rows and columns, channel by channel. -/
theorem reduce_at (x : FVec Ideal S16x32x32x256 .f32) (init : EReal) (h : S16x32x32x256.ReducesTo [0, 1, 2] S256) (o : Fin 256) :
    Ideal.hostReduceAdd h x init (ix1 o) = init + ∑ i : Fin 16 × Fin 32 × Fin 32, x (ix4 i.1 i.2.1 i.2.2 o) := by
  refine congrArg (init + ·) (Finset.sum_filter_eq_sum_of_fiber _
    (fun k : Fin 16 × Fin 32 × Fin 32 => (ix4 k.1 k.2.1 k.2.2 o : S16x32x32x256.Idx)) ?_ ?_ x)
  · exact fun _ _ e => Prod.ext (congrFun e 0) (Prod.ext (congrFun e 1) (congrFun e 2))
  · intro i
    constructor
    · intro e
      refine ⟨(i 0, i 1, i 2), ?_⟩
      funext a; apply Fin.ext
      match a with
      | ⟨0, _⟩ => rfl
      | ⟨1, _⟩ => rfl
      | ⟨2, _⟩ => rfl
      | ⟨3, _⟩ => exact (congrArg Fin.val (congrFun e 0)).symm
    · rintro ⟨k, rfl⟩
      funext b
      apply Fin.ext
      match b with
      | ⟨0, _⟩ => rfl

variable (x0 : FVec Ideal S16x32x32x384 .f32) (x1 : FVec Ideal S256x384x3x3 .f32) (x2 x3 x4 : FVec Ideal S256 .f32)
  (x5 : FVec Ideal S256x256x3x3 .f32) (x6 x7 x8 : FVec Ideal S256 .f32) (x9 : FVec Ideal S1x256x3x3 .f32) (x10 : FVec Ideal S1 .f32)

/-- The conversion of the word 0 is 0. -/
theorem word_zero : (FloatOps.sitofp (F := Ideal) FTy.f32 (0#32 : BitVec 32) : EReal) = 0 := by
  show (((0#32 : BitVec 32).toInt : ℝ) : EReal) = 0
  simp

/-- The number of values per channel is positive, also with nothing taken from it. -/
theorem cnt_pos : 0 < cnt := by
  rw [cnt_eq]
  exact EReal.coe_pos.2 (by norm_num)

/-- The padding of one image by the converted word 0. -/
theorem padded_of (f : Fin 32 → Fin 32 → EReal) (h w : Fin 34) :
    (if H : (1 ≤ h.val ∧ h.val - 1 < 32) ∧ 1 ≤ w.val ∧ w.val - 1 < 32 then f ⟨h.val - 1, H.1.2⟩ ⟨w.val - 1, H.2.2⟩
      else FloatOps.sitofp (F := Ideal) FTy.f32 (0#32 : BitVec 32)) = padded f h.val w.val := by
  rw [word_zero]
  unfold padded
  refine dite_congr (propext ?_) (fun _ => rfl) (fun _ => rfl)
  omega

/-! ## First layer -/

/-- The padded image: the image inside, 0 on the border. -/
theorem pad1_at (n : Fin 16) (h w : Fin 34) (k : Fin 384) :
    val_main_v0 (F := Ideal) x0 (ix4 n h w k) = padded (fun a b => x0 (ix4 n a b k)) h.val w.val := by
  pointwise [val_main_v0, val_main_call0_v0, val_main_c]
  exact padded_of (fun a b => x0 (ix4 n a b k)) h w

/-- Nine taps, one by one, are the double sum over the taps. -/
theorem taps_eq {C : ℕ} (x : Fin 32 → Fin 32 → Fin C → EReal) (k : Fin C → Fin 3 → Fin 3 → EReal) (h w : Fin 32)
    (d : Fin 3 → Fin 3 → EReal) (hd : ∀ dy dx, d dy dx = ∑ c, padded (fun a b => x a b c) (h.val + dy.val) (w.val + dx.val) * k c dy dx) :
    d 0 0 + d 0 1 + d 0 2 + d 1 0 + d 1 1 + d 1 2 + d 2 0 + d 2 1 + d 2 2 = conv x k h w := by
  have := sum_taps d
  rw [zero_add] at this
  rw [this]
  exact Finset.sum_congr rfl fun dy _ => Finset.sum_congr rfl fun dx _ => hd dy dx

/-- The first convolution with its bias. -/
theorem conv1_at (n : Fin 16) (h w : Fin 32) (o : Fin 256) :
    val_main_v49 (F := Ideal) x0 x1 x2 (ix4 n h w o) = convLayer (fun o k dy dx => x1 (ix4 o k dy dx)) (fun o => x2 (ix1 o)) (fun n a b k => x0 (ix4 n a b k)) n h w o := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_cst]
  simp only [pad1_at]
  refine congrArg (· + x2 (ix1 o)) (Eq.trans ?_ (taps_eq (fun a b k => x0 (ix4 n a b k)) (fun k dy dx => x1 (ix4 o k dy dx)) h w _ (fun _ _ => rfl)))
  simp only [Nat.add_comm]
  rfl

/-- The first normalisation. -/
theorem norm1_at (n : Fin 16) (h w : Fin 32) (o : Fin 256) :
    val_main_v68 (F := Ideal) x0 x1 x2 x3 x4 (ix4 n h w o)
      = normLayer (fun o => x3 (ix1 o)) (fun o => x4 (ix1 o)) (fun n a b k => val_main_v49 (F := Ideal) x0 x1 x2 (ix4 n a b k)) n h w o := by
  pointwise [val_main_v50, val_main_v51, val_main_v52, val_main_v53, val_main_v54, val_main_v55, val_main_v56, val_main_v57,
      val_main_v58, val_main_v59, val_main_v60, val_main_v61, val_main_v62, val_main_v63, val_main_v64, val_main_v65,
      val_main_v66, val_main_v67, val_main_v68, val_main_cst_0, val_main_cst_1, val_main_c_2, val_main_call1_cst,
      val_main_call1_v0, val_main_call1_v1, val_main_call1_cst_0, val_main_call1_v2, val_main_call1_v3, val_main_call1_v4,
      val_main_call1_v5, val_main_call1_v6, val_main_call1_v7, val_main_call1_cst_1, val_main_call1_v8, val_main_call1_cst_2,
      val_main_call1_v9, val_main_call1_v10, val_main_call1_v11, val_main_call1_v12, val_main_call1_cst_3, val_main_call1_v13,
      val_main_call1_cst_4, val_main_call1_call0_v0, val_main_call1_call0_v1, val_main_cst_3, val_main_call2_cst,
      val_main_call2_v0, reduce_at]
  rw [word_zero]
  simp only [sub_zero, if_pos cnt_pos]
  rfl

/-! ## Second layer -/

/-- The padded second input. -/
theorem pad2_at (n : Fin 16) (h w : Fin 34) (k : Fin 256) :
    val_main_v69 (F := Ideal) x0 x1 x2 x3 x4 (ix4 n h w k)
      = padded (fun a b => val_main_v68 (F := Ideal) x0 x1 x2 x3 x4 (ix4 n a b k)) h.val w.val := by
  pointwise [val_main_v69, val_main_call3_v0, val_main_c_4]
  exact padded_of (fun a b => val_main_v68 (F := Ideal) x0 x1 x2 x3 x4 (ix4 n a b k)) h w

/-- The second convolution with its bias. -/
theorem conv2_at (n : Fin 16) (h w : Fin 32) (o : Fin 256) :
    val_main_v118 (F := Ideal) x0 x1 x2 x3 x4 x5 x6 (ix4 n h w o)
      = convLayer (fun o k dy dx => x5 (ix4 o k dy dx)) (fun o => x6 (ix1 o))
          (fun n a b k => val_main_v68 (F := Ideal) x0 x1 x2 x3 x4 (ix4 n a b k)) n h w o := by
  pointwise [val_main_v70, val_main_v71, val_main_v72, val_main_v73, val_main_v74, val_main_v75, val_main_v76, val_main_v77,
      val_main_v78, val_main_v79, val_main_v80, val_main_v81, val_main_v82, val_main_v83, val_main_v84, val_main_v85,
      val_main_v86, val_main_v87, val_main_v88, val_main_v89, val_main_v90, val_main_v91, val_main_v92, val_main_v93,
      val_main_v94, val_main_v95, val_main_v96, val_main_v97, val_main_v98, val_main_v99, val_main_v100, val_main_v101,
      val_main_v102, val_main_v103, val_main_v104, val_main_v105, val_main_v106, val_main_v107, val_main_v108, val_main_v109,
      val_main_v110, val_main_v111, val_main_v112, val_main_v113, val_main_v114, val_main_v115, val_main_v116, val_main_v117,
      val_main_v118, val_main_cst_5]
  simp only [pad2_at]
  refine congrArg (· + x6 (ix1 o)) (Eq.trans ?_ (taps_eq (fun a b k => val_main_v68 (F := Ideal) x0 x1 x2 x3 x4 (ix4 n a b k))
    (fun k dy dx => x5 (ix4 o k dy dx)) h w _ (fun _ _ => rfl)))
  simp only [Nat.add_comm]
  rfl

/-- The second normalisation. -/
theorem norm2_at (n : Fin 16) (h w : Fin 32) (o : Fin 256) :
    val_main_v137 (F := Ideal) x0 x1 x2 x3 x4 x5 x6 x7 x8 (ix4 n h w o)
      = normLayer (fun o => x7 (ix1 o)) (fun o => x8 (ix1 o))
          (fun n a b k => val_main_v118 (F := Ideal) x0 x1 x2 x3 x4 x5 x6 (ix4 n a b k)) n h w o := by
  pointwise [val_main_v119, val_main_v120, val_main_v121, val_main_v122, val_main_v123, val_main_v124, val_main_v125, val_main_v126,
      val_main_v127, val_main_v128, val_main_v129, val_main_v130, val_main_v131, val_main_v132, val_main_v133, val_main_v134,
      val_main_v135, val_main_v136, val_main_v137, val_main_cst_6, val_main_cst_7, val_main_c_8, val_main_call4_cst,
      val_main_call4_v0, val_main_call4_v1, val_main_call4_cst_0, val_main_call4_v2, val_main_call4_v3, val_main_call4_v4,
      val_main_call4_v5, val_main_call4_v6, val_main_call4_v7, val_main_call4_cst_1, val_main_call4_v8, val_main_call4_cst_2,
      val_main_call4_v9, val_main_call4_v10, val_main_call4_v11, val_main_call4_v12, val_main_call4_cst_3, val_main_call4_v13,
      val_main_call4_cst_4, val_main_call4_call0_v0, val_main_call4_call0_v1, val_main_cst_9, val_main_call5_cst,
      val_main_call5_v0, reduce_at]
  rw [word_zero]
  simp only [sub_zero, if_pos cnt_pos]
  rfl

/-! ## Third layer -/

/-- The padded third input. -/
theorem pad3_at (n : Fin 16) (h w : Fin 34) (k : Fin 256) :
    val_main_v138 (F := Ideal) x0 x1 x2 x3 x4 x5 x6 x7 x8 (ix4 n h w k)
      = padded (fun a b => val_main_v137 (F := Ideal) x0 x1 x2 x3 x4 x5 x6 x7 x8 (ix4 n a b k)) h.val w.val := by
  pointwise [val_main_v138, val_main_call6_v0, val_main_c_10]
  exact padded_of (fun a b => val_main_v137 (F := Ideal) x0 x1 x2 x3 x4 x5 x6 x7 x8 (ix4 n a b k)) h w

/-- The third convolution with its bias, of one output channel. -/
theorem conv3_at (n : Fin 16) (h w : Fin 32) :
    val_main_v187 (F := Ideal) x0 x1 x2 x3 x4 x5 x6 x7 x8 x9 x10 (ix4 n h w 0)
      = convLayer (O := 1) (fun o k dy dx => x9 (ix4 o k dy dx)) (fun o => x10 (ix1 o))
          (fun n a b k => val_main_v137 (F := Ideal) x0 x1 x2 x3 x4 x5 x6 x7 x8 (ix4 n a b k)) n h w 0 := by
  pointwise [val_main_v139, val_main_v140, val_main_v141, val_main_v142, val_main_v143, val_main_v144, val_main_v145, val_main_v146,
      val_main_v147, val_main_v148, val_main_v149, val_main_v150, val_main_v151, val_main_v152, val_main_v153, val_main_v154,
      val_main_v155, val_main_v156, val_main_v157, val_main_v158, val_main_v159, val_main_v160, val_main_v161, val_main_v162,
      val_main_v163, val_main_v164, val_main_v165, val_main_v166, val_main_v167, val_main_v168, val_main_v169, val_main_v170,
      val_main_v171, val_main_v172, val_main_v173, val_main_v174, val_main_v175, val_main_v176, val_main_v177, val_main_v178,
      val_main_v179, val_main_v180, val_main_v181, val_main_v182, val_main_v183, val_main_v184, val_main_v185, val_main_v186,
      val_main_v187, val_main_cst_11]
  simp only [pad3_at]
  refine congrArg (· + x10 (ix1 0)) (Eq.trans ?_ (taps_eq (fun a b k => val_main_v137 (F := Ideal) x0 x1 x2 x3 x4 x5 x6 x7 x8 (ix4 n a b k))
    (fun k dy dx => x9 (ix4 0 k dy dx)) h w _ (fun _ _ => rfl)))
  simp only [Nat.add_comm]
  rfl

/-- The logistic function of the third layer. -/
theorem out_at (n : Fin 16) (h w : Fin 32) :
    val_main_v193 (F := Ideal) x0 x1 x2 x3 x4 x5 x6 x7 x8 x9 x10 (ix4 n h w 0)
      = Ideal.logistic (val_main_v187 (F := Ideal) x0 x1 x2 x3 x4 x5 x6 x7 x8 x9 x10 (ix4 n h w 0)) := by
  pointwise [val_main_v188, val_main_v189, val_main_v190, val_main_v191, val_main_v192, val_main_v193, val_main_cst_12,
      val_main_cst_13]
  rfl

/-- WHAT THE REFERENCE COMPUTES: the three-layer network of its arguments, the array that the kernel is shown to return. -/
theorem result_at : val_main_v193 (F := Ideal) x0 x1 x2 x3 x4 x5 x6 x7 x8 x9 x10
    = Cert.KernelIdeal.Value.image (Cert.KernelIdeal.Value.argsAt x0 x1 x2 x3 x4 x5 x6 x7 x8 x9 x10) := by
  funext i
  rw [show i = ix4 (i 0) (i 1) (i 2) 0 from by blk_ext]
  refine (out_at x0 x1 x2 x3 x4 x5 x6 x7 x8 x9 x10 _ _ _).trans (congrArg Ideal.logistic ?_)
  refine (conv3_at x0 x1 x2 x3 x4 x5 x6 x7 x8 x9 x10 _ _ _).trans ?_
  simp only [norm2_at, conv2_at, norm1_at, conv1_at]
  rfl

end Cert.ReferenceIdeal.Net
-- ==== Proof.lean ====
/-
  The certificate: the kernel and its idealization run to the end and keep their arguments, so does the reference, and over the
  extended reals the kernel's result is the reference's whenever the two arrays of scales hold real numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Pre
public import proofs.«01_k».proof.Proof.RefNet
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem Cert.Kernel

/-- The reference runs to completion, leaves its arguments unchanged, and every counter is zero at its end (it declares
    no semaphore). -/
theorem reference_frame : Cert.quiescent_ReferenceIdeal (hReferenceIdeal := Cert.ReferenceIdeal.Gen.facts) :=
  fun m g _ => (θ_run _ _ _).mono (fun _ h => ⟨fun c => (h c).2, sem_eq_zero_of_no_sems (by decide) _⟩)
    (Cert.ReferenceIdeal.Value.run m g)

/-- THE VALUE CLAIM: both programs end with the network's result on the shared arguments. -/
theorem value : Cert.algebraic_KernelIdeal_ReferenceIdeal_pre_finite_scales (hKernelIdeal := Cert.KernelIdeal.Gen.facts)
    (hReferenceIdeal := Cert.ReferenceIdeal.Gen.facts) (hPre_finite_scales := Cert.Pre_finite_scales.preFacts) := by
  intro m g m' g' hpre hagree
  have hs := fun c => Cert.Pre_finite_scales.real_of_pre (hf := Cert.Pre_finite_scales.preFacts) (hpre c)
  refine ⟨fun c => Cert.KernelIdeal.Value.image (Cert.KernelIdeal.Value.args m c), ?_, ?_⟩
  · exact (θ_run _ _ _).mono (fun _ h c => ⟨h.1 c, h.2.1 c⟩) (θ_run_and
      (Cert.KernelIdeal.Value.result_run m g (fun c => (hs c).1) (fun c => (hs c).2)) (Cert.KernelIdeal.Body.frame_run m g))
  · refine (θ_run _ _ _).mono (fun _ h c => ⟨(h c).1.trans ?_, (h c).2⟩) (Cert.ReferenceIdeal.Value.run m' g')
    obtain ⟨e0, e1, e2, e3, e4, e5, e6, e7, e8, e9, e10⟩ := hagree c
    refine (Cert.ReferenceIdeal.Read.val_main_v193_eq (F := Ideal) (StableHlo.launchContents m' c)).trans ?_
    refine (Cert.ReferenceIdeal.Net.result_at _ _ _ _ _ _ _ _ _ _ _).trans ?_
    simp only [StableHlo.launchContents_devRef, e0, e1, e2, e3, e4, e5, e6, e7, e8, e9, e10]

theorem claim : Cert.Claim := ⟨Cert.Kernel.Gen.facts, Cert.KernelIdeal.Gen.facts, Cert.ReferenceIdeal.Gen.facts,
  Cert.Pre_finite_scales.preFacts,
  fun m g _ => Cert.Kernel.Body.frame_run m g,
  fun m g _ => Cert.KernelIdeal.Body.frame_run m g,
  fun m g _ => Cert.KernelIdeal.Body.frame_run m g,
  reference_frame, fun m g _ => reference_frame m g trivial, trivial, value⟩

end Cert.Proof

end
